-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_0)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v0_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S1024x256 : Shape := ⟨2, ![1024, 256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S2048x2048 : Shape := ⟨2, ![2048, 2048]⟩
abbrev S8192x256 : Shape := ⟨2, ![8192, 256]⟩
abbrev S8192x1024 : Shape := ⟨2, ![8192, 1024]⟩
abbrev S1x1 : Shape := ⟨2, ![1, 1]⟩
abbrev S512x2048 : Shape := ⟨2, ![512, 2048]⟩
abbrev S1x1024 : Shape := ⟨2, ![1, 1024]⟩
abbrev S512x512 : Shape := ⟨2, ![512, 512]⟩
abbrev S1x512 : Shape := ⟨2, ![1, 512]⟩
abbrev S1x256 : Shape := ⟨2, ![1, 256]⟩
abbrev S512x1 : Shape := ⟨2, ![512, 1]⟩
abbrev S1 : Shape := ⟨1, ![1]⟩
abbrev S1024x1024 : Shape := ⟨2, ![1024, 1024]⟩
abbrev S1x2048 : Shape := ⟨2, ![1, 2048]⟩
abbrev S_ : Shape := ⟨0, ![]⟩

abbrev nBuf : Space → Nat
  | .hbm => 25
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1024x256, .f32⟩
  | .hbm, ⟨10, _⟩ => ⟨S256x512, .f32⟩
  | .hbm, ⟨11, _⟩ => ⟨S512, .f32⟩
  | .hbm, ⟨12, _⟩ => ⟨S512x1024, .f32⟩
  | .hbm, ⟨13, _⟩ => ⟨S1024, .f32⟩
  | .hbm, ⟨14, _⟩ => ⟨S1024x2048, .f32⟩
  | .hbm, ⟨15, _⟩ => ⟨S2048, .f32⟩
  | .hbm, ⟨16, _⟩ => ⟨S2048x2048, .f32⟩
  | .hbm, ⟨17, _⟩ => ⟨S2048, .f32⟩
  | .hbm, ⟨18, _⟩ => ⟨S8192x256, .f32⟩
  | .hbm, ⟨19, _⟩ => ⟨S8192x1024, .f32⟩
  | .hbm, ⟨20, _⟩ => ⟨S1x1, .f32⟩
  | .hbm, ⟨21, _⟩ => ⟨S1x1, .f32⟩
  | .hbm, ⟨22, _⟩ => ⟨S8192x2048, .f32⟩
  | .hbm, ⟨23, _⟩ => ⟨S_, .f32⟩
  | .hbm, ⟨24, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S1024, .f32⟩
  | .local _ .vmem, ⟨4, _⟩ => ⟨S1024x512, .f32⟩
  | .local _ .vmem, ⟨5, _⟩ => ⟨S512, .f32⟩
  | .local _ .vmem, ⟨6, _⟩ => ⟨S512x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1024x256, .f32⟩
  | .local _ .vmem, ⟨11, _⟩ => ⟨S512x256, .f32⟩
  | .local _ .vmem, ⟨12, _⟩ => ⟨S512x256, .f32⟩
  | .local _ .vmem, ⟨13, _⟩ => ⟨S512x1024, .f32⟩
  | .local _ .vmem, ⟨14, _⟩ => ⟨S512x1024, .f32⟩
  | .local _ .vmem, ⟨15, _⟩ => ⟨S1x1, .f32⟩
  | .local _ .vmem, ⟨16, _⟩ => ⟨S1x1, .f32⟩
  | .local _ .vmem, ⟨17, _⟩ => ⟨S1x1024, .f32⟩
  | .local _ .vmem, ⟨18, _⟩ => ⟨S1x1, .f32⟩
  | .local _ .vmem, ⟨19, _⟩ => ⟨S1024x256, .f32⟩
  | .local _ .vmem, ⟨20, _⟩ => ⟨S1024x256, .f32⟩
  | .local _ .vmem, ⟨21, _⟩ => ⟨S256x512, .f32⟩
  | .local _ .vmem, ⟨22, _⟩ => ⟨S512, .f32⟩
  | .local _ .vmem, ⟨23, _⟩ => ⟨S512x1024, .f32⟩
  | .local _ .vmem, ⟨24, _⟩ => ⟨S1024, .f32⟩
  | .local _ .vmem, ⟨25, _⟩ => ⟨S1024x2048, .f32⟩
  | .local _ .vmem, ⟨26, _⟩ => ⟨S2048, .f32⟩
  | .local _ .vmem, ⟨27, _⟩ => ⟨S2048x2048, .f32⟩
  | .local _ .vmem, ⟨28, _⟩ => ⟨S2048, .f32⟩
  | .local _ .vmem, ⟨29, _⟩ => ⟨S1024x2048, .f32⟩
  | .local _ .vmem, ⟨30, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v84 : BitVec 1 := Scalar.cmpi .eq arg0 c15_i32
  let v85 : BitVec 32 := Scalar.extui v84
  let c0_i32_44 : BitVec 32 := 0#32
  let v86 : BitVec 1 := Scalar.cmpi .ne v85 c0_i32_44
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S8192x2048 : Shape := ⟨2, ![8192, 2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S1024x256 : Shape := ⟨2, ![1024, 256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S2048x2048 : Shape := ⟨2, ![2048, 2048]⟩
abbrev S8192x1024 : Shape := ⟨2, ![8192, 1024]⟩
abbrev S1x1024 : Shape := ⟨2, ![1, 1024]⟩
abbrev S_ : Shape := ⟨0, ![]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S8192 : Shape := ⟨1, ![8192]⟩
abbrev S8192x1 : Shape := ⟨2, ![8192, 1]⟩
abbrev S256x1024 : Shape := ⟨2, ![256, 1024]⟩
abbrev S1x2048 : Shape := ⟨2, ![1, 2048]⟩

abbrev nBuf : Space → Nat
  | .hbm => 128
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1024x256, .f32⟩
  | .hbm, ⟨10, _⟩ => ⟨S256x512, .f32⟩
  | .hbm, ⟨11, _⟩ => ⟨S512, .f32⟩
  | .hbm, ⟨12, _⟩ => ⟨S512x1024, .f32⟩
  | .hbm, ⟨13, _⟩ => ⟨S1024, .f32⟩
  | .hbm, ⟨14, _⟩ => ⟨S1024x2048, .f32⟩
  | .hbm, ⟨15, _⟩ => ⟨S2048, .f32⟩
  | .hbm, ⟨16, _⟩ => ⟨S2048x2048, .f32⟩
  | .hbm, ⟨17, _⟩ => ⟨S2048, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x256, .f32⟩
  | .hbm, ⟨33, _⟩ => ⟨S1x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S1024x256, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S256x1024, .f32⟩
  | .hbm, ⟨58, _⟩ => ⟨S8192x1024, .f32⟩
  | .hbm, ⟨59, _⟩ => ⟨S8192x1024, .f32⟩
  | .hbm, ⟨60, _⟩ => ⟨S8192x1024, .i32⟩
  | .hbm, ⟨61, _⟩ => ⟨S_, .f32⟩
  | .hbm, ⟨62, _⟩ => ⟨S_, .i32⟩
  | .hbm, ⟨63, _⟩ => ⟨S8192, .f32⟩
  | .hbm, ⟨64, _⟩ => ⟨S8192, .i32⟩
  | .hbm, ⟨65, _⟩ => ⟨S8192x1, .i32⟩
  | .hbm, ⟨66, _⟩ => ⟨S1x1024, .i32⟩
  | .hbm, ⟨67, _⟩ => ⟨S8192x1024, .i32⟩
  | .hbm, ⟨68, _⟩ => ⟨S8192x1024, .i32⟩
  | .hbm, ⟨69, _⟩ => ⟨S8192x1024, .i1⟩
  | .hbm, ⟨70, _⟩ => ⟨S8192x1024, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x256, .f32⟩
  | .hbm, ⟨88, _⟩ => ⟨S8192x256, .f32⟩
  | .hbm, ⟨89, _⟩ => ⟨S_, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S8192x512, .f32⟩
  | .hbm, ⟨104, _⟩ => ⟨S1x512, .f32⟩
  | .hbm, ⟨105, _⟩ => ⟨S8192x512, .f32⟩
  | .hbm, ⟨106, _⟩ => ⟨S8192x512, .f32⟩
  | .hbm, ⟨107, _⟩ => ⟨S_, .f32⟩
  | .hbm, ⟨108, _⟩ => ⟨S8192x512, .f32⟩
  | .hbm, ⟨109, _⟩ => ⟨S8192x512, .f32⟩
  | .hbm, ⟨110, _⟩ => ⟨S8192x1024, .f32⟩
  | .hbm, ⟨111, _⟩ => ⟨S1x1024, .f32⟩
  | .hbm, ⟨112, _⟩ => ⟨S8192x1024, .f32⟩
  | .hbm, ⟨113, _⟩ => ⟨S8192x1024, .f32⟩
  | .hbm, ⟨114, _⟩ => ⟨S_, .f32⟩
  | .hbm, ⟨115, _⟩ => ⟨S8192x1024, .f32⟩
  | .hbm, ⟨116, _⟩ => ⟨S8192x1024, .f32⟩
  | .hbm, ⟨117, _⟩ => ⟨S8192x2048, .f32⟩
  | .hbm, ⟨118, _⟩ => ⟨S1x2048, .f32⟩
  | .hbm, ⟨119, _⟩ => ⟨S8192x2048, .f32⟩
  | .hbm, ⟨120, _⟩ => ⟨S8192x2048, .f32⟩
  | .hbm, ⟨121, _⟩ => ⟨S_, .f32⟩
  | .hbm, ⟨122, _⟩ => ⟨S8192x2048, .f32⟩
  | .hbm, ⟨123, _⟩ => ⟨S8192x2048, .f32⟩
  | .hbm, ⟨124, _⟩ => ⟨S8192x2048, .f32⟩
  | .hbm, ⟨125, _⟩ => ⟨S1x2048, .f32⟩
  | .hbm, ⟨126, _⟩ => ⟨S8192x2048, .f32⟩
  | .hbm, ⟨127, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call3_v0 : Ref sig .tc := ⟨.hbm, 60, rfl⟩
abbrev main_call3_cst : Ref sig .tc := ⟨.hbm, 61, rfl⟩
abbrev main_call3_c : Ref sig .tc := ⟨.hbm, 62, rfl⟩
abbrev main_call3_v1_0 : Ref sig .tc := ⟨.hbm, 63, rfl⟩
abbrev main_v33 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_2 : Ref sig .tc := ⟨.hbm, 74, rfl⟩
abbrev main_v38 : Ref sig .tc := ⟨.hbm, 75, rfl⟩
abbrev main_cst_3 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_cst_5 : Ref sig .tc := ⟨.hbm, 82, rfl⟩
abbrev main_v43 : Ref sig .tc := ⟨.hbm, 83, rfl⟩
abbrev main_cst_6 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_7 : Ref sig .tc := ⟨.hbm, 89, rfl⟩
abbrev main_v48 : Ref sig .tc := ⟨.hbm, 90, rfl⟩
abbrev main_cst_8 : Ref sig .tc := ⟨.hbm, 91, rfl⟩
abbrev main_v49 : Ref sig .tc := ⟨.hbm, 92, rfl⟩
abbrev main_v50 : Ref sig .tc := ⟨.hbm, 93, rfl⟩
abbrev main_cst_9 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_10 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call5_cst : Ref sig .tc := ⟨.hbm, 107, rfl⟩
abbrev main_call5_v0 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call6_cst : Ref sig .tc := ⟨.hbm, 114, rfl⟩
abbrev main_call6_v0 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_call7_cst : Ref sig .tc := ⟨.hbm, 121, rfl⟩
abbrev main_call7_v0 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩

abbrev nD : Nat := 1
abbrev τ : Topo := Topo.v7x

variable {F : FTy → Type} [FloatOps F]
-- ==== Proof.Body0.lean ====
/- The encoder and quantiser kernel's body on whole staging buffers: one triple for every grid point, with each
   buffer's final contents named by the skeleton's payloads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.VQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid point is the first one, as the body tests it. -/
abbrev isFirst (i : grid0.Coords) : Prop :=
  (Scalar.cmpi .ne (Scalar.extui (Scalar.cmpi .eq (BitVec.ofNat 32 (i 0).val) 0#32)) 0#32) = 1#1

/-- The grid point is the last one, as the body tests it. -/
abbrev isLast (i : grid0.Coords) : Prop := k0_cond2 i = 1#1

/-- The counts of codes after a point, from those before it: started at zero at the first point. -/
def countsNext (first : Prop) [Decidable first] (z : FVec F S512x256 .f32) (e : Vec F S1024x256 .f32) (s : Vec F S1x1024 .f32) :
    Vec F S1x1024 .f32 :=
  k0_pay2 (k0_pay8 z e) (if first then k0_pay5 else s)

/-- The sum of squared distances after a point, from that before it: started at zero at the first point. -/
def lossNext (first : Prop) [Decidable first] (z : FVec F S512x256 .f32) (e : Vec F S1024x256 .f32) (s : Vec F S1x1 .f32) :
    Vec F S1x1 .f32 :=
  k0_pay1 (k0_pay11 z e (if first then k0_pay6 else s))

/-- A load of a whole matrix reads its contents. -/
theorem readAt_mat {κ : Kind} {sp : Space} {e : EltTy} {m n : ℕ} (v : View sig κ sp ⟨2, ![m, n]⟩ e) (f : v.ty.Contents (Elt F)) {off : Fin 2 → ℕ}
    (inb : ∀ a : Fin 2, off a + ![m, n] a ≤ ![m, n] a) :
    v.readAt (Elt F) (Rect.unit (s := ⟨2, ![m, n]⟩) off ![m, n] inb).toLoadRect f = v.read (Elt F) f :=
  View.readAt_full v f inb

/-- A load of a whole vector reads its contents. -/
theorem readAt_row {κ : Kind} {sp : Space} {e : EltTy} {m : ℕ} (v : View sig κ sp ⟨1, ![m]⟩ e) (f : v.ty.Contents (Elt F)) {off : Fin 1 → ℕ}
    (inb : ∀ a : Fin 1, off a + ![m] a ≤ ![m] a) :
    v.readAt (Elt F) (Rect.unit (s := ⟨1, ![m]⟩) off ![m] inb).toLoadRect f = v.read (Elt F) f :=
  View.readAt_full v f inb

/-- A load of a whole matrix after a store of a whole one reads what was stored. -/
theorem readCov_mat {κ : Kind} {sp : Space} {e : EltTy} {m n : ℕ} (v : View sig κ sp ⟨2, ![m, n]⟩ e) {off off' : Fin 2 → ℕ}
    (inb : ∀ a : Fin 2, off a + ![m, n] a ≤ ![m, n] a) (inb' : ∀ a : Fin 2, off' a + ![m, n] a ≤ ![m, n] a)
    (w : (Rect.unit (s := ⟨2, ![m, n]⟩) off' ![m, n] inb').shape.Idx → Elt F e) (L : List (View.Piece (Elt F) ⟨2, ![m, n]⟩ e)) :
    v.readCov (⟨Rect.unit (s := ⟨2, ![m, n]⟩) off' ![m, n] inb', w⟩ :: L) (Rect.unit (s := ⟨2, ![m, n]⟩) off ![m, n] inb).toLoadRect = w :=
  View.readCov_full v inb inb' w L

/-- A store of a whole matrix leaves what was stored. -/
theorem read_writes_mat {κ : Kind} {sp : Space} {e : EltTy} {m n : ℕ} (v : View sig κ sp ⟨2, ![m, n]⟩ e) (f : v.ty.Contents (Elt F))
    {off : Fin 2 → ℕ} (inb : ∀ a : Fin 2, off a + ![m, n] a ≤ ![m, n] a)
    (w : (Rect.unit (s := ⟨2, ![m, n]⟩) off ![m, n] inb).shape.Idx → Elt F e) (L : List (View.Piece (Elt F) ⟨2, ![m, n]⟩ e)) :
    v.read (Elt F) (v.writes (Elt F) f (⟨Rect.unit (s := ⟨2, ![m, n]⟩) off ![m, n] inb, w⟩ :: L)) = w :=
  View.read_writes_full v f inb w L

set_option maxHeartbeats 2000000 in
/-- The body on any whole buffers: the inputs are kept, the two block outputs hold the quantised rows and the codes, the scratch goes on
    by one step, and at the last point the two scalar outputs are written from the scratch. -/
theorem body_run (c : Dev nD) (i : grid0.Coords)
    (arg1 : Memref sig .tc .vmem S512x2048 .f32) (harg1 : arg1.IsWhole) (arg2 : Memref sig .tc .vmem S2048x1024 .f32) (harg2 : arg2.IsWhole)
    (arg3 : Memref sig .tc .vmem S1024 .f32) (harg3 : arg3.IsWhole) (arg4 : Memref sig .tc .vmem S1024x512 .f32) (harg4 : arg4.IsWhole)
    (arg5 : Memref sig .tc .vmem S512 .f32) (harg5 : arg5.IsWhole) (arg6 : Memref sig .tc .vmem S512x256 .f32) (harg6 : arg6.IsWhole)
    (arg7 : Memref sig .tc .vmem S256 .f32) (harg7 : arg7.IsWhole) (arg8 : Memref sig .tc .vmem S256x256 .f32) (harg8 : arg8.IsWhole)
    (arg9 : Memref sig .tc .vmem S256 .f32) (harg9 : arg9.IsWhole) (arg10 : Memref sig .tc .vmem S1024x256 .f32) (harg10 : arg10.IsWhole)
    (arg11 : Memref sig .tc .vmem S512x256 .f32) (harg11 : arg11.IsWhole) (arg12 : Memref sig .tc .vmem S512x1024 .f32) (harg12 : arg12.IsWhole)
    (arg13 : Memref sig .tc .vmem S1x1 .f32) (harg13 : arg13.IsWhole) (arg14 : Memref sig .tc .vmem S1x1 .f32) (harg14 : arg14.IsWhole)
    (arg15 : Memref sig .tc .vmem S1x1024 .f32) (harg15 : arg15.IsWhole) (arg16 : Memref sig .tc .vmem S1x1 .f32) (harg16 : arg16.IsWhole)
    (x0 : Vec F S512x2048 .f32) (x1 : Vec F S2048x1024 .f32) (x2 : Vec F S1024 .f32) (x3 : Vec F S1024x512 .f32) (x4 : Vec F S512 .f32)
    (x5 : Vec F S512x256 .f32) (x6 : Vec F S256 .f32) (x7 : Vec F S256x256 .f32) (x8 : Vec F S256 .f32) (x9 : Vec F S1024x256 .f32)
    (d12 d13 : Vec F S1x1 .f32) (s0 : Vec F S1x1024 .f32) (s1 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9
        ∗ (∃ d, owns (c : Thread nD τ) arg11 fullShare d) ∗ (∃ d, owns (c : Thread nD τ) arg12 fullShare d)
        ∗ owns (c : Thread nD τ) arg13 fullShare d12 ∗ owns (c : Thread nD τ) arg14 fullShare d13
        ∗ owns (c : Thread nD τ) arg15 fullShare s0 ∗ owns (c : Thread nD τ) arg16 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (k0_pay10 (k0_pay7 x0 x1 x2 x3 x4 x5 x6 x7 x8) x9)
            ∗ owns (c : Thread nD τ) arg12 fullShare (k0_pay8 (k0_pay7 x0 x1 x2 x3 x4 x5 x6 x7 x8) x9)
            ∗ owns (c : Thread nD τ) arg13 fullShare (if isLast i then k0_pay3 (lossNext (isFirst i) (k0_pay7 x0 x1 x2 x3 x4 x5 x6 x7 x8) x9 s1) else d12)
            ∗ owns (c : Thread nD τ) arg14 fullShare (if isLast i then k0_pay4 (countsNext (isFirst i) (k0_pay7 x0 x1 x2 x3 x4 x5 x6 x7 x8) x9 s0) else d13)
            ∗ owns (c : Thread nD τ) arg15 fullShare (countsNext (isFirst i) (k0_pay7 x0 x1 x2 x3 x4 x5 x6 x7 x8) x9 s0)
            ∗ owns (c : Thread nD τ) arg16 fullShare (lossNext (isFirst i) (k0_pay7 x0 x1 x2 x3 x4 x5 x6 x7 x8) x9 s1)) -∗ K ⟨⟩))
      ⊢ wp frame (wpE (defs₀ (F := F)) Variants.none c none) E (cc0__encvq_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encvq_body_eq_skeleton]; unfold cc0__encvq_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12; obtain rfl := harg14.eq_unread hf13; obtain rfl := harg15.eq_unread hfs0; obtain rfl := harg16.eq_unread hfs1
  by_cases hc0 : isFirst i <;> by_cases hc1 : isLast i <;>
  ( sl_exec (disch := first | sl_exact hc0 | sl_exact hc1)
    sl_step
    iapply Hk
    isplitl [H0]; · iexists _; isplitr; swap; (· iexact H0); ipureintro; exact harg1.read_unread _
    isplitl [H1]; · iexists _; isplitr; swap; (· iexact H1); ipureintro; exact harg2.read_unread _
    isplitl [H2]; · iexists _; isplitr; swap; (· iexact H2); ipureintro; exact harg3.read_unread _
    isplitl [H3]; · iexists _; isplitr; swap; (· iexact H3); ipureintro; exact harg4.read_unread _
    isplitl [H4]; · iexists _; isplitr; swap; (· iexact H4); ipureintro; exact harg5.read_unread _
    isplitl [H5]; · iexists _; isplitr; swap; (· iexact H5); ipureintro; exact harg6.read_unread _
    isplitl [H6]; · iexists _; isplitr; swap; (· iexact H6); ipureintro; exact harg7.read_unread _
    isplitl [H7]; · iexists _; isplitr; swap; (· iexact H7); ipureintro; exact harg8.read_unread _
    isplitl [H8]; · iexists _; isplitr; swap; (· iexact H8); ipureintro; exact harg9.read_unread _
    isplitl [H9]; · iexists _; isplitr; swap; (· iexact H9); ipureintro; exact harg10.read_unread _
    isplitl [H10]; (iexists _; isplitr; swap; (· iexact H10); ipureintro; rotate_left)
    isplitl [H11]; (iexists _; isplitr; swap; (· iexact H11); ipureintro; rotate_left)
    isplitl [H12]; (iexists _; isplitr; swap; (· iexact H12); ipureintro; rotate_left)
    isplitl [H13]; (iexists _; isplitr; swap; (· iexact H13); ipureintro; rotate_left)
    isplitl [HS0]; (iexists _; isplitr; swap; (· iexact HS0); ipureintro; rotate_left)
    (iexists _; isplitr; swap; (· iexact HS1); ipureintro) )
  all_goals (repeat delta body_run.sl.HS0_1 body_run.sl.HS0_1_1 body_run.sl.HS0_1_2 body_run.sl.HS0_2 body_run.sl.HS1_1 body_run.sl.HS1_1_1 body_run.sl.HS1_1_2 body_run.sl.HS1_2 body_run.sl.r body_run.sl.r_1 body_run.sl.r_10 body_run.sl.r_11 body_run.sl.r_2 body_run.sl.r_3 body_run.sl.r_4 body_run.sl.r_5 body_run.sl.r_6 body_run.sl.r_7 body_run.sl.r_8 body_run.sl.r_9 body_run.sl.v0 body_run.sl.v0_1 body_run.sl.v0_2 body_run.sl.v0_3 body_run.sl.v1 body_run.sl.v1_1 body_run.sl.v1_2 body_run.sl.v1_3 body_run.sl.v2 body_run.sl.v2_1 body_run.sl.v2_2 body_run.sl.v2_3 body_run.sl.v72 body_run.sl.v72_1 body_run.sl.v77 body_run.sl.v77_1 body_run.sl.v87 body_run.sl.v87_1 body_run.sl.v94 body_run.sl.v94_1)
  all_goals simp only [countsNext, lossNext, read_writes_mat, readAt_mat, readAt_row, readCov_mat,
    harg1.read_unread, harg2.read_unread, harg3.read_unread, harg4.read_unread, harg5.read_unread, harg6.read_unread, harg7.read_unread,
    harg8.read_unread, harg9.read_unread, harg10.read_unread, harg13.read_unread, harg14.read_unread, harg15.read_unread, harg16.read_unread,
    hc0, hc1, if_true, if_false]
  all_goals try first | rw [if_pos hc0] | rw [if_neg hc0]
  all_goals try first | rw [if_pos hc1] | rw [if_neg hc1]
  all_goals try first | rw [if_pos hc0] | rw [if_neg hc0]

end Cert.VQ

end
-- ==== Proof.Region0.lean ====
/- The encoder and quantiser's region: its proof data over any entry contents, with the running counts and the running loss
   carried in the scratch, and the body obligation at every grid point. -/
module

public import proofs.«01_k».proof.Proof.Body0

@[expose] public section

set_option maxRecDepth 16384

noncomputable section

namespace Cert.VQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of every buffer on every core: what a region is entered with. -/
abbrev Entry (F : FTy → Type) [FloatOps F] := (c : Dev nD) → (b : Ref sig .tc) → Buf (Elt F) ((c : Thread nD τ).loc b)

/-- A window live at a point leaves what the proof data say. -/
theorem leaves_live {cfg : Pipeline.Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

namespace R0

/-- At the last point the two scalar outputs are live; -/
theorem idle_of_last (t : Fin cfg0.N) (h : isLast (grid0.coords t)) :
    cfg0.idle 12 (grid0.coords t) = false ∧ cfg0.idle 13 (grid0.coords t) = false := by
  have e : (!(k0_cond2 (grid0.coords t) == 1#1)) = false := by rw [beq_iff_eq.mpr h]; rfl
  exact ⟨e, e⟩

/-- at the others they are idle -/
theorem idle_of_not_last (t : Fin cfg0.N) (h : ¬isLast (grid0.coords t)) :
    cfg0.idle 12 (grid0.coords t) = true ∧ cfg0.idle 13 (grid0.coords t) = true := by
  have e : (!(k0_cond2 (grid0.coords t) == 1#1)) = true := by rw [beq_eq_false_iff_ne.mpr h]; rfl
  exact ⟨e, e⟩

/-- and not written back. -/
theorem noFlush_of_not_last : ∀ t : Fin cfg0.N, ¬isLast (grid0.coords t) →
    (cfg0.win 12).flush t = false ∧ (cfg0.win 13).flush t = false := by decide +kernel

variable (V : Entry F)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The encoded rows of a point. -/
def zAt (c : Dev nD) (t : Fin cfg0.N) : FVec F S512x256 .f32 :=
  k0_pay7 (iblk V c 0 t) (iblk V c 1 t) (iblk V c 2 t) (iblk V c 3 t) (iblk V c 4 t) (iblk V c 5 t) (iblk V c 6 t) (iblk V c 7 t) (iblk V c 8 t)

/-- The codebook, as a point finds it. -/
def codes (c : Dev nD) (t : Fin cfg0.N) : Vec F S1024x256 .f32 := iblk V c 9 t

/-- Point number `n`; the first one past the grid's end. -/
def ptOf (n : ℕ) : Fin cfg0.N := if h : n < cfg0.N then ⟨n, h⟩ else ⟨0, by rw [show cfg0.N = 16 from N_0]; decide⟩

theorem ptOf_val (t : Fin cfg0.N) : ptOf t.val = t := dif_pos t.isLt

/-- The counts of codes over the first `n` points. -/
def countsAt (c : Dev nD) : ℕ → Vec F S1x1024 .f32
  | 0 => k0_pay5
  | n + 1 => k0_pay2 (k0_pay8 (zAt V c (ptOf n)) (codes V c (ptOf n))) (countsAt c n)

/-- The sum of squared distances over the first `n` points. -/
def lossAt (c : Dev nD) : ℕ → Vec F S1x1 .f32
  | 0 => k0_pay6
  | n + 1 => k0_pay1 (k0_pay11 (zAt V c (ptOf n)) (codes V c (ptOf n)) (lossAt c n))

/-- The body's first test holds at the first point alone. -/
theorem isFirst_iff (t : Fin cfg0.N) : isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [isFirst, e0]
    word_cmp
   : ∀ t : Fin grid0.N, isFirst (grid0.coords t) ↔ t.val = 0) t

/-- The body's second test holds at the last point alone. -/
theorem isLast_iff (t : Fin cfg0.N) : isLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [isLast, k0_cond2, e0]
    word_cmp
   : ∀ t : Fin grid0.N, isLast (grid0.coords t) ↔ t.val = 15) t

/-- One point's step of the counts, from the counts so far (or from anything, at the first point). -/
theorem counts_step (c : Dev nD) (t : Fin cfg0.N) (s : Vec F S1x1024 .f32) (h : t.val ≠ 0 → s = countsAt V c t.val) :
    countsNext (isFirst (grid0.coords t)) (zAt V c t) (codes V c t) s = countsAt V c (t.val + 1) := by
  unfold countsNext
  rw [countsAt, ptOf_val]
  by_cases h0 : isFirst (grid0.coords t)
  · rw [if_pos h0, (isFirst_iff t).mp h0]; rfl
  · rw [if_neg h0, h fun e => h0 ((isFirst_iff t).mpr e)]

/-- One point's step of the loss, from the loss so far (or from anything, at the first point). -/
theorem loss_step (c : Dev nD) (t : Fin cfg0.N) (s : Vec F S1x1 .f32) (h : t.val ≠ 0 → s = lossAt V c t.val) :
    lossNext (isFirst (grid0.coords t)) (zAt V c t) (codes V c t) s = lossAt V c (t.val + 1) := by
  unfold lossNext
  rw [lossAt, ptOf_val]
  by_cases h0 : isFirst (grid0.coords t)
  · rw [if_pos h0, (isFirst_iff t).mp h0]; rfl
  · rw [if_neg h0, h fun e => h0 ((isFirst_iff t).mpr e)]

/-- A buffer held whole at some contents. -/
def anyBuf (c : Dev nD) (b : Ref sig .tc) : sProp 𝕄 := iprop(∃ f : Buf (Elt F) ((c : Thread nD τ).loc b), ((c : Thread nD τ).loc b) ↦{fullShare} f)

/-- The other region's staging buffers. -/
def others (c : Dev nD) : sProp 𝕄 :=
  iprop(anyBuf c cc1_stg0_0 ∗ anyBuf c cc1_stg0_1 ∗ anyBuf c cc1_stg1_0 ∗ anyBuf c cc1_stg2_0 ∗ anyBuf c cc1_stg3_0 ∗ anyBuf c cc1_stg4_0 ∗ anyBuf c cc1_stg5_0 ∗ anyBuf c cc1_stg6_0 ∗ anyBuf c cc1_stg7_0 ∗ anyBuf c cc1_stg8_0 ∗ anyBuf c cc1_stg9_0 ∗ anyBuf c cc1_stg9_1)

/-- The region's invariant before point number `n`: the two scratch buffers, at the running counts and loss once a point has run. -/
def Phi (c : Dev nD) (n : ℕ) : sProp 𝕄 :=
  iprop((∃ s0 : Vec F S1x1024 .f32, ∃ s1 : Vec F S1x1 .f32, ⌜(n ≠ 0 → s0 = countsAt V c n) ∧ (n ≠ 0 → s1 = lossAt V c n)⌝
      ∗ owns (c : Thread nD τ) (Memref.whole cc0_scratch0) fullShare s0 ∗ owns (c : Thread nD τ) (Memref.whole cc0_scratch1) fullShare s1)
    ∗ others (F := F) c ∗ ∃ r, prngReg c r)

/-- The proof data of the region on a core: the arrays as found; after a point each input at its block, the two block outputs at the
    quantised rows and the codes, the two scalar outputs at what the running values give. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => k0_pay10 (zAt V c t) (codes V c t)
    | ⟨11, _⟩ => k0_pay8 (zAt V c t) (codes V c t)
    | ⟨12, _⟩ => k0_pay3 (lossAt V c (t.val + 1))
    | ⟨13, _⟩ => k0_pay4 (countsAt V c (t.val + 1))
  Φ t := Phi V c t.val
  q _ := fullShare
  owed _ := 0

theorem A_eq (c : Dev nD) (w : Fin cfg0.W) : (dat V c).A w = V c (Pipeline.arrRef spec0 w) := by
  dsimp only [dat]

/-- An input's staging buffer holds its block at every point, fetched there or not. -/
theorem before_in (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat V c).after w t) = (dat V c).blockOf w t) (t : Fin cfg0.N) (d) :
    (dat V c).before w t d = (dat V c).fetched w t d :=
  (dat V c).before_in_eq_fetched w hw hlive hclip hkeep t d

theorem before_0 (c : Dev nD) (t : Fin cfg0.N) (d) : (dat V c).before 0 t d = iblk V c 0 t :=
  (before_in V c 0 rfl (fun _ => rfl) (fun _ _ _ => rfl) (fun _ => rfl) t d).trans rfl
theorem before_1 (c : Dev nD) (t : Fin cfg0.N) (d) : (dat V c).before 1 t d = iblk V c 1 t :=
  (before_in V c 1 rfl (fun _ => rfl) (fun _ _ _ => rfl) (fun _ => rfl) t d).trans rfl
theorem before_2 (c : Dev nD) (t : Fin cfg0.N) (d) : (dat V c).before 2 t d = iblk V c 2 t :=
  (before_in V c 2 rfl (fun _ => rfl) (fun _ _ _ => rfl) (fun _ => rfl) t d).trans rfl
theorem before_3 (c : Dev nD) (t : Fin cfg0.N) (d) : (dat V c).before 3 t d = iblk V c 3 t :=
  (before_in V c 3 rfl (fun _ => rfl) (fun _ _ _ => rfl) (fun _ => rfl) t d).trans rfl
theorem before_4 (c : Dev nD) (t : Fin cfg0.N) (d) : (dat V c).before 4 t d = iblk V c 4 t :=
  (before_in V c 4 rfl (fun _ => rfl) (fun _ _ _ => rfl) (fun _ => rfl) t d).trans rfl
theorem before_5 (c : Dev nD) (t : Fin cfg0.N) (d) : (dat V c).before 5 t d = iblk V c 5 t :=
  (before_in V c 5 rfl (fun _ => rfl) (fun _ _ _ => rfl) (fun _ => rfl) t d).trans rfl
theorem before_6 (c : Dev nD) (t : Fin cfg0.N) (d) : (dat V c).before 6 t d = iblk V c 6 t :=
  (before_in V c 6 rfl (fun _ => rfl) (fun _ _ _ => rfl) (fun _ => rfl) t d).trans rfl
theorem before_7 (c : Dev nD) (t : Fin cfg0.N) (d) : (dat V c).before 7 t d = iblk V c 7 t :=
  (before_in V c 7 rfl (fun _ => rfl) (fun _ _ _ => rfl) (fun _ => rfl) t d).trans rfl
theorem before_8 (c : Dev nD) (t : Fin cfg0.N) (d) : (dat V c).before 8 t d = iblk V c 8 t :=
  (before_in V c 8 rfl (fun _ => rfl) (fun _ _ _ => rfl) (fun _ => rfl) t d).trans rfl
theorem before_9 (c : Dev nD) (t : Fin cfg0.N) (d) : (dat V c).before 9 t d = iblk V c 9 t :=
  (before_in V c 9 rfl (fun _ => rfl) (fun _ _ _ => rfl) (fun _ => rfl) t d).trans rfl

/-- What the body is called with at a point, window by window, -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d))
    ∗ (∃ d, owns (c : Thread nD τ) (win0_6.stage (cfg0.slots t 6)) fullShare ((dat V c).before 6 t d))
    ∗ (∃ d, owns (c : Thread nD τ) (win0_7.stage (cfg0.slots t 7)) fullShare ((dat V c).before 7 t d))
    ∗ (∃ d, owns (c : Thread nD τ) (win0_8.stage (cfg0.slots t 8)) fullShare ((dat V c).before 8 t d))
    ∗ (∃ d, owns (c : Thread nD τ) (win0_9.stage (cfg0.slots t 9)) fullShare ((dat V c).before 9 t d))
    ∗ (∃ d, owns (c : Thread nD τ) (win0_10.stage (cfg0.slots t 10)) fullShare ((dat V c).before 10 t d))
    ∗ (∃ d, owns (c : Thread nD τ) (win0_11.stage (cfg0.slots t 11)) fullShare ((dat V c).before 11 t d))
    ∗ (∃ d, owns (c : Thread nD τ) (win0_12.stage (cfg0.slots t 12)) fullShare ((dat V c).before 12 t d))
    ∗ (∃ d, owns (c : Thread nD τ) (win0_13.stage (cfg0.slots t 13)) fullShare ((dat V c).before 13 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t)

set_option maxHeartbeats 4000000 in
/-- The body at any point: the one triple of the body, at the blocks and the scratch the invariant holds. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).owesAt () t.succ = (dat V c).owesAt () t.castSucc from rfl,
    show (dat V c).Φ t.castSucc = Phi V c t.val from rfl, show (dat V c).Φ t.succ = Phi V c (t.val + 1) from rfl]
  rw [leaves_live _ 0 t rfl, leaves_live _ 1 t rfl, leaves_live _ 2 t rfl, leaves_live _ 3 t rfl, leaves_live _ 4 t rfl, leaves_live _ 5 t rfl, leaves_live _ 6 t rfl, leaves_live _ 7 t rfl, leaves_live _ 8 t rfl, leaves_live _ 9 t rfl, leaves_live _ 10 t rfl, leaves_live _ 11 t rfl]
  unfold Phi
  iintro ⟨⟨⟨%s0, %s1, %hs, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) _ _ s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · iexists _; iexists _
      isplitr
      swap
      · isplitl [HS0]; · iexact HS0
        iexact HS1
      ipureintro
      exact ⟨fun _ => counts_step V c t s0 hs.1, fun _ => loss_step V c t s1 hs.2⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  by_cases hl : isLast (grid0.coords t)
  · rw [leaves_live _ 12 t (idle_of_last t hl).1, leaves_live _ 13 t (idle_of_last t hl).2]
    rw [show (dat V c).after 12 t = k0_pay3 (lossAt V c (t.val + 1)) from rfl, show (dat V c).after 13 t = k0_pay4 (countsAt V c (t.val + 1)) from rfl,
      ← loss_step V c t s1 hs.2, ← counts_step V c t s0 hs.1]
    isplitl [H12]
    · rw [if_pos hl]; iexact H12
    rw [if_pos hl]; iexact H13
  · rw [Dat.leavesExact_idle (dat V c) 12 t (idle_of_not_last t hl).1 (noFlush_of_not_last t hl).1,
      Dat.leavesExact_idle (dat V c) 13 t (idle_of_not_last t hl).2 (noFlush_of_not_last t hl).2]
    rw [if_neg hl, if_neg hl]
    isplitl [H12]; · iexists _; iexact H12
    iexists _; iexact H13

/-- The body table's row at a point's slots is the body as run there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : iprop(Pipeline.scopedRest (Ix := Unit) (Name := ℕ) (U := UR sig nD τ) (Lvl := ℕ) (Val := Elt F) spec0 c ∗ ∃ r, prngReg c r) ⊢ (dat V c).Φ 0 := by
  rw [show (dat V c).Φ 0 = Phi V c 0 from rfl, scopedRest0_eq]
  unfold Phi others anyBuf
  iintro ⟨⟨⟨%f0, HS0⟩, ⟨%f1, HS1⟩, Hr⟩, Hg⟩
  isplitl [HS0 HS1]
  · iexists f0; iexists f1
    isplitr; · ipureintro; exact ⟨fun h => absurd rfl h, fun h => absurd rfl h⟩
    rw [owns_whole, owns_whole]
    isplitl [HS0]; · iexact HS0
    iexact HS1
  isplitl [Hr]; · iexact Hr
  iexact Hg

/-- After the last point the scratch's contents are forgotten. -/
theorem hout (c : Dev nD) : (dat V c).Φ (Fin.last cfg0.N) ⊢ iprop(Pipeline.scopedRest (Ix := Unit) (Name := ℕ) (U := UR sig nD τ) (Lvl := ℕ) (Val := Elt F) spec0 c ∗ ∃ r, prngReg c r) := by
  rw [show (dat V c).Φ (Fin.last cfg0.N) = Phi V c cfg0.N from rfl, scopedRest0_eq]
  unfold Phi others anyBuf
  simp only [owns_whole]
  iintro ⟨⟨%s0, %s1, -, HS0, HS1⟩, Hr, Hg⟩
  isplitl [HS0 HS1 Hr]
  · isplitl [HS0]; · iexists _; iexact HS0
    isplitl [HS1]; · iexists _; iexact HS1
    iexact Hr
  iexact Hg

end R0

end Cert.VQ

end
-- ==== Proof.Region1.lean ====
/- The decoder's region: the body's triple on whole staging buffers, the proof data over any entry contents, and the body
   obligation at every grid point. -/
module

public import proofs.«01_k».proof.Proof.Region0

@[expose] public section

set_option maxRecDepth 16384

noncomputable section

namespace Cert.VQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R1

set_option maxHeartbeats 2000000 in
/-- The decoder's body on any whole buffers: the inputs are kept, the output holds the decoded rows. -/
theorem body_run (c : Dev nD) (i : grid1.Coords)
    (arg1 : Memref sig .tc .vmem S1024x256 .f32) (harg1 : arg1.IsWhole) (arg2 : Memref sig .tc .vmem S256x512 .f32) (harg2 : arg2.IsWhole)
    (arg3 : Memref sig .tc .vmem S512 .f32) (harg3 : arg3.IsWhole) (arg4 : Memref sig .tc .vmem S512x1024 .f32) (harg4 : arg4.IsWhole)
    (arg5 : Memref sig .tc .vmem S1024 .f32) (harg5 : arg5.IsWhole) (arg6 : Memref sig .tc .vmem S1024x2048 .f32) (harg6 : arg6.IsWhole)
    (arg7 : Memref sig .tc .vmem S2048 .f32) (harg7 : arg7.IsWhole) (arg8 : Memref sig .tc .vmem S2048x2048 .f32) (harg8 : arg8.IsWhole)
    (arg9 : Memref sig .tc .vmem S2048 .f32) (harg9 : arg9.IsWhole) (arg10 : Memref sig .tc .vmem S1024x2048 .f32) (harg10 : arg10.IsWhole)
    (x0 : Vec F S1024x256 .f32) (x1 : Vec F S256x512 .f32) (x2 : Vec F S512 .f32) (x3 : Vec F S512x1024 .f32) (x4 : Vec F S1024 .f32) (x5 : Vec F S1024x2048 .f32) (x6 : Vec F S2048 .f32) (x7 : Vec F S2048x2048 .f32) (x8 : Vec F S2048 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (k1_pay1 x0 x1 x2 x3 x4 x5 x6 x7 x8)) -∗ K ⟨⟩))
      ⊢ wp frame (wpE (defs₀ (F := F)) Variants.none c none) E (cc1__dec_body i arg1 harg1 arg2 harg2 arg3 harg3 arg4 harg4 arg5 harg5 arg6 harg6 arg7 harg7 arg8 harg8 arg9 harg9 arg10 harg10) K := by
  simp only [cc1__dec_body_eq_skeleton]; unfold cc1__dec_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  sl_step
  iapply Hk
  isplitl [H0]; · iexists _; isplitr; swap; (· iexact H0); ipureintro; exact harg1.read_unread _
  isplitl [H1]; · iexists _; isplitr; swap; (· iexact H1); ipureintro; exact harg2.read_unread _
  isplitl [H2]; · iexists _; isplitr; swap; (· iexact H2); ipureintro; exact harg3.read_unread _
  isplitl [H3]; · iexists _; isplitr; swap; (· iexact H3); ipureintro; exact harg4.read_unread _
  isplitl [H4]; · iexists _; isplitr; swap; (· iexact H4); ipureintro; exact harg5.read_unread _
  isplitl [H5]; · iexists _; isplitr; swap; (· iexact H5); ipureintro; exact harg6.read_unread _
  isplitl [H6]; · iexists _; isplitr; swap; (· iexact H6); ipureintro; exact harg7.read_unread _
  isplitl [H7]; · iexists _; isplitr; swap; (· iexact H7); ipureintro; exact harg8.read_unread _
  isplitl [H8]; · iexists _; isplitr; swap; (· iexact H8); ipureintro; exact harg9.read_unread _
  iexists _; isplitr; swap; (· iexact H9); ipureintro
  simp only [read_writes_mat, readAt_mat, readAt_row, harg1.read_unread, harg2.read_unread, harg3.read_unread, harg4.read_unread, harg5.read_unread, harg6.read_unread, harg7.read_unread, harg8.read_unread, harg9.read_unread]

variable (V : Entry F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The decoded rows of a point. -/
def decAt (c : Dev nD) (t : Fin cfg1.N) : FVec F S1024x2048 .f32 :=
  k1_pay1 (iblk V c 0 t) (iblk V c 1 t) (iblk V c 2 t) (iblk V c 3 t) (iblk V c 4 t) (iblk V c 5 t) (iblk V c 6 t) (iblk V c 7 t) (iblk V c 8 t)

/-- The proof data of the region on a core: the arrays as found; after a point each input at its block, the output at the decoded
    rows. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => decAt V c t
  Φ _ := iprop(Pipeline.scopedRest (Ix := Unit) (Name := ℕ) (U := UR sig nD τ) (Lvl := ℕ) (Val := Elt F) spec1 c ∗ ∃ r, prngReg c r)
  q _ := fullShare
  owed _ := 0

theorem A_eq (c : Dev nD) (w : Fin cfg1.W) : (dat V c).A w = V c (Pipeline.arrRef spec1 w) := by
  dsimp only [dat]

/-- An input's staging buffer holds its block at every point, fetched there or not. -/
theorem before_in (c : Dev nD) (w : Fin cfg1.W) (hw : (cfg1.win w).isOut = false) (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat V c).after w t) = (dat V c).blockOf w t) (t : Fin cfg1.N) (d) :
    (dat V c).before w t d = (dat V c).fetched w t d :=
  (dat V c).before_in_eq_fetched w hw hlive hclip hkeep t d

theorem before_0 (c : Dev nD) (t : Fin cfg1.N) (d) : (dat V c).before 0 t d = iblk V c 0 t :=
  (before_in V c 0 rfl (fun _ => rfl) (fun _ _ _ => rfl) (fun _ => rfl) t d).trans rfl
theorem before_1 (c : Dev nD) (t : Fin cfg1.N) (d) : (dat V c).before 1 t d = iblk V c 1 t :=
  (before_in V c 1 rfl (fun _ => rfl) (fun _ _ _ => rfl) (fun _ => rfl) t d).trans rfl
theorem before_2 (c : Dev nD) (t : Fin cfg1.N) (d) : (dat V c).before 2 t d = iblk V c 2 t :=
  (before_in V c 2 rfl (fun _ => rfl) (fun _ _ _ => rfl) (fun _ => rfl) t d).trans rfl
theorem before_3 (c : Dev nD) (t : Fin cfg1.N) (d) : (dat V c).before 3 t d = iblk V c 3 t :=
  (before_in V c 3 rfl (fun _ => rfl) (fun _ _ _ => rfl) (fun _ => rfl) t d).trans rfl
theorem before_4 (c : Dev nD) (t : Fin cfg1.N) (d) : (dat V c).before 4 t d = iblk V c 4 t :=
  (before_in V c 4 rfl (fun _ => rfl) (fun _ _ _ => rfl) (fun _ => rfl) t d).trans rfl
theorem before_5 (c : Dev nD) (t : Fin cfg1.N) (d) : (dat V c).before 5 t d = iblk V c 5 t :=
  (before_in V c 5 rfl (fun _ => rfl) (fun _ _ _ => rfl) (fun _ => rfl) t d).trans rfl
theorem before_6 (c : Dev nD) (t : Fin cfg1.N) (d) : (dat V c).before 6 t d = iblk V c 6 t :=
  (before_in V c 6 rfl (fun _ => rfl) (fun _ _ _ => rfl) (fun _ => rfl) t d).trans rfl
theorem before_7 (c : Dev nD) (t : Fin cfg1.N) (d) : (dat V c).before 7 t d = iblk V c 7 t :=
  (before_in V c 7 rfl (fun _ => rfl) (fun _ _ _ => rfl) (fun _ => rfl) t d).trans rfl
theorem before_8 (c : Dev nD) (t : Fin cfg1.N) (d) : (dat V c).before 8 t d = iblk V c 8 t :=
  (before_in V c 8 rfl (fun _ => rfl) (fun _ _ _ => rfl) (fun _ => rfl) t d).trans rfl

/-- What the body is called with at a point, window by window, -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d))
    ∗ (∃ d, owns (c : Thread nD τ) (win1_7.stage (cfg1.slots t 7)) fullShare ((dat V c).before 7 t d))
    ∗ (∃ d, owns (c : Thread nD τ) (win1_8.stage (cfg1.slots t 8)) fullShare ((dat V c).before 8 t d))
    ∗ (∃ d, owns (c : Thread nD τ) (win1_9.stage (cfg1.slots t 9)) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 1000000 in
/-- The body at any point: its triple at the blocks; the invariant and the core's dues pass by. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).owesAt () t.succ = (dat V c).owesAt () t.castSucc from rfl, show (dat V c).Φ t.succ = (dat V c).Φ t.castSucc from rfl]
  rw [leaves_live _ 0 t rfl, leaves_live _ 1 t rfl, leaves_live _ 2 t rfl, leaves_live _ 3 t rfl, leaves_live _ 4 t rfl, leaves_live _ 5 t rfl, leaves_live _ 6 t rfl, leaves_live _ 7 t rfl, leaves_live _ 8 t rfl, leaves_live _ 9 t rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point's slots is the body as run there. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end R1

end Cert.VQ

end
-- ==== Proof.Run.lean ====
/- The whole program's run: the two regions' records over their arrays, the launch, and what every unscoped buffer of a core
   holds at the end. -/
module

public import proofs.«01_k».proof.Proof.Region1
public import proofs.«01_k».proof.Proof.Gen.KernelIdeal.Regions
public import Idealize.ShloMosaic.Lib.Pipeline.RegionArrays

@[expose] public section

set_option maxRecDepth 16384

noncomputable section

namespace Cert.VQ

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- What the first region finds, -/
abbrev Ve0 : Entry F := fun c b => V0 m c (Proc.devRef .tc b)
/-- and the second. -/
abbrev Ve1 : Entry F := fun c b => V1 m outs c (Proc.devRef .tc b)

/-- The contents `outs` are what the two regions leave in their output arrays. -/
structure IsOuts : Prop where
  q : ∀ c, outs 1 main_v0_0 c = (R0.dat (Ve0 m) c).arrAt 10 cfg0.N
  enc : ∀ c, outs 1 main_v0_1 c = (R0.dat (Ve0 m) c).arrAt 11 cfg0.N
  loss : ∀ c, outs 1 main_v0_2 c = (R0.dat (Ve0 m) c).arrAt 12 cfg0.N
  perp : ∀ c, outs 1 main_v0_3 c = (R0.dat (Ve0 m) c).arrAt 13 cfg0.N
  dec : ∀ c, outs 2 main_v1 c = (R1.dat (Ve1 m outs) c).arrAt 9 cfg1.N

/-- Contents that agree with `f` but for what the first region leaves. -/
def outsA : Outs (F := F) := fun _ r c =>
  Function.update (β := fun r : Ref sig .tc => Buf (Elt F) ((c : Thread nD τ).loc r))
    (Function.update (β := fun r : Ref sig .tc => Buf (Elt F) ((c : Thread nD τ).loc r))
      (Function.update (β := fun r : Ref sig .tc => Buf (Elt F) ((c : Thread nD τ).loc r))
        (Function.update (β := fun r : Ref sig .tc => Buf (Elt F) ((c : Thread nD τ).loc r))
          (fun r => m ((c : Thread nD τ).loc r)) main_v0_0 ((R0.dat (Ve0 m) c).arrAt 10 cfg0.N))
        main_v0_1 ((R0.dat (Ve0 m) c).arrAt 11 cfg0.N))
      main_v0_2 ((R0.dat (Ve0 m) c).arrAt 12 cfg0.N))
    main_v0_3 ((R0.dat (Ve0 m) c).arrAt 13 cfg0.N) r

/-- Those, with what the second region leaves. -/
def outsB : Outs (F := F) := fun n r c =>
  Function.update (β := fun r : Ref sig .tc => Buf (Elt F) ((c : Thread nD τ).loc r))
    (fun r => outsA m n r c) main_v1 ((R1.dat (Ve1 m (outsA m)) c).arrAt 9 cfg1.N) r

theorem outsB_of_ne (n : ℕ) (r : Ref sig .tc) (h : r ≠ main_v1) (c : Dev nD) : outsB m n r c = outsA m n r c :=
  Function.update_of_ne h _ _

theorem Ve1_outsB : Ve1 m (outsB m) = Ve1 m (outsA m) := by
  funext c b
  simp only [Ve1, V1, outsB_of_ne m 1 main_v0_0 (by decide) c, outsB_of_ne m 1 main_v0_1 (by decide) c, outsB_of_ne m 1 main_v0_2 (by decide) c,
    outsB_of_ne m 1 main_v0_3 (by decide) c]

theorem isOuts_outsB : IsOuts m (outsB m) where
  q c := by
    rw [outsB_of_ne m 1 main_v0_0 (by decide) c]; unfold outsA
    rw [Function.update_of_ne (by decide), Function.update_of_ne (by decide), Function.update_of_ne (by decide), Function.update_self]
  enc c := by
    rw [outsB_of_ne m 1 main_v0_1 (by decide) c]; unfold outsA
    rw [Function.update_of_ne (by decide), Function.update_of_ne (by decide), Function.update_self]
  loss c := by
    rw [outsB_of_ne m 1 main_v0_2 (by decide) c]; unfold outsA
    rw [Function.update_of_ne (by decide), Function.update_self]
  perp c := by
    rw [outsB_of_ne m 1 main_v0_3 (by decide) c]; unfold outsA
    rw [Function.update_self]
  dec c := by rw [Ve1_outsB]; exact Function.update_self _ _ _

/-! ## What the valuations hold at the arrays -/

theorem V1_v0_3 (c : Dev nD) : V1 m outs c main_v0_3 = outs 1 main_v0_3 c := by
  simp only [V1, Function.update_self]
theorem V1_v0_2 (c : Dev nD) : V1 m outs c main_v0_2 = outs 1 main_v0_2 c := by
  simp only [V1, Function.update_self, Function.update_of_ne (StableHlo.devRef_ne_of_ne (by decide) : (Proc.devRef .tc main_v0_2 : DevRef τ sig) ≠ Proc.devRef .tc main_v0_3)]
theorem V1_v0_1 (c : Dev nD) : V1 m outs c main_v0_1 = outs 1 main_v0_1 c := by
  simp only [V1, Function.update_self, Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2)]
theorem V1_v0_0 (c : Dev nD) : V1 m outs c main_v0_0 = outs 1 main_v0_0 c := by
  simp only [V1, Function.update_self, Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1)]
theorem V2_v1 (c : Dev nD) : V2 m outs c main_v1 = outs 2 main_v1 c := by
  simp only [V2, Function.update_self]

/-! ## The regions' arrays -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr0_S : Pipeline.arrRefs (τ := τ) spec0 ⊆ Pipeline.ucRefs τ sig := Pipeline.arrRefs_sub_ucRefs spec0 (by decide)
theorem arr1_S : Pipeline.arrRefs (τ := τ) spec1 ⊆ Pipeline.ucRefs τ sig := Pipeline.arrRefs_sub_ucRefs spec1 (by decide)

/-- A region changes its output arrays alone. -/
theorem rest0_eq (c : Dev nD) : ∀ b ∈ (Pipeline.ucRefs τ sig) \ Pipeline.arrRefs (τ := τ) spec0, V1 m outs c b = V0 m c b := fun b hb => by
  have hn : b ∉ Pipeline.arrRefs (τ := τ) spec0 := (Finset.mem_sdiff.mp hb).2
  have h0 : b ≠ Proc.devRef .tc main_v0_0 := by rintro rfl; exact hn (arr0_mem 10)
  have h1 : b ≠ Proc.devRef .tc main_v0_1 := by rintro rfl; exact hn (arr0_mem 11)
  have h2 : b ≠ Proc.devRef .tc main_v0_2 := by rintro rfl; exact hn (arr0_mem 12)
  have h3 : b ≠ Proc.devRef .tc main_v0_3 := by rintro rfl; exact hn (arr0_mem 13)
  simp only [V1, Function.update_of_ne h0, Function.update_of_ne h1, Function.update_of_ne h2, Function.update_of_ne h3]
theorem rest1_eq (c : Dev nD) : ∀ b ∈ (Pipeline.ucRefs τ sig) \ Pipeline.arrRefs (τ := τ) spec1, V2 m outs c b = V1 m outs c b := fun b hb => by
  have hn : b ∉ Pipeline.arrRefs (τ := τ) spec1 := (Finset.mem_sdiff.mp hb).2
  have h : b ≠ Proc.devRef .tc main_v1 := by rintro rfl; exact hn (arr1_mem 9)
  simp only [V2, Function.update_of_ne h]

/-! ## The regions' records -/

/-- The staging waits' index is assigned on the TensorCores, all at level zero. -/
abbrev L : GSem nD τ sig → Finset Unit := fun g => if g.1.2 = .tc then {()} else ∅
abbrev lv : GSem nD τ sig → Unit → ℕ := fun _ _ => 0

/-- The two regions' proof data. -/
def pdats : (p : Fin 2) → (c : Dev nD) → Dat τ (Elt F) Unit ℕ (UR sig nD τ) ℕ (cfgs p) c
  | ⟨0, _⟩ => fun c => R0.dat (Ve0 m) c
  | ⟨1, _⟩ => fun c => R1.dat (Ve1 m outs) c

/-- What a core holds beside the buffers, between two items. -/
abbrev Er (c : Dev nD) : sProp 𝕄 := iprop((∃ r, prngReg c r) ∗ ∃ W, owes (c : Thread nD τ) (0 : CellTallies nD τ sig Unit) W)

theorem cut (p : Fin 2) : Pipeline.LevelCut (pcfgs (F := F)) adm () L lv p (fun _ => 0) (fun _ => 0) where
  hι _ _ _ := by simp [L]
  hιb _ _ _ := le_refl _
  hD _ g i h := absurd h (lt_irrefl _)

variable {outs} (ho : IsOuts m outs)

set_option backward.isDefEq.respectTransparency.types false in
/-- The encoder's region: its arrays held as launched in, and at the first region's contents out. -/
def S0 : RegionSeg (pcfgs (F := F)) adm (pdats m outs) () defs₀ Variants.none L lv 0 :=
  Pipeline.RegionSeg.ofHeld (pcfgs (F := F)) adm (pdats m outs) () defs₀ Variants.none L lv 0 (fun _ => 0)
    (fun c => iprop(∃ r, prngReg c r)) (fun c => iprop(∃ r, prngReg c r))
    launch0.toP rfl
    (fun c => (R0.body_obligation (Ve0 m) c).loose) (fun _ _ => rfl) (fun _ => rfl)
    (fun c => ((pdats m outs) 0 c).share_full fun _ => rfl) (fun c => R0.hin (Ve0 m) c) (fun c => R0.hout (Ve0 m) c) (fun _ => 0) (cut 0)
    (fun c => StableHlo.held (c : Thread nD τ) ((Pipeline.ucRefs τ sig) \ Pipeline.arrRefs (τ := τ) spec0) (V0 m c))
    (V0 m) (V1 m outs) (fun _ _ => rfl)
    (fun c => fun
      | 0 => (((pdats m outs) 0 c).arrAt_in 0 rfl _).trans ((R0.A_eq (Ve0 m) c 0).trans (V1_of m outs c (Pipeline.arrRef spec0 0) (by decide)).symm)
      | 1 => (((pdats m outs) 0 c).arrAt_in 1 rfl _).trans ((R0.A_eq (Ve0 m) c 1).trans (V1_of m outs c (Pipeline.arrRef spec0 1) (by decide)).symm)
      | 2 => (((pdats m outs) 0 c).arrAt_in 2 rfl _).trans ((R0.A_eq (Ve0 m) c 2).trans (V1_of m outs c (Pipeline.arrRef spec0 2) (by decide)).symm)
      | 3 => (((pdats m outs) 0 c).arrAt_in 3 rfl _).trans ((R0.A_eq (Ve0 m) c 3).trans (V1_of m outs c (Pipeline.arrRef spec0 3) (by decide)).symm)
      | 4 => (((pdats m outs) 0 c).arrAt_in 4 rfl _).trans ((R0.A_eq (Ve0 m) c 4).trans (V1_of m outs c (Pipeline.arrRef spec0 4) (by decide)).symm)
      | 5 => (((pdats m outs) 0 c).arrAt_in 5 rfl _).trans ((R0.A_eq (Ve0 m) c 5).trans (V1_of m outs c (Pipeline.arrRef spec0 5) (by decide)).symm)
      | 6 => (((pdats m outs) 0 c).arrAt_in 6 rfl _).trans ((R0.A_eq (Ve0 m) c 6).trans (V1_of m outs c (Pipeline.arrRef spec0 6) (by decide)).symm)
      | 7 => (((pdats m outs) 0 c).arrAt_in 7 rfl _).trans ((R0.A_eq (Ve0 m) c 7).trans (V1_of m outs c (Pipeline.arrRef spec0 7) (by decide)).symm)
      | 8 => (((pdats m outs) 0 c).arrAt_in 8 rfl _).trans ((R0.A_eq (Ve0 m) c 8).trans (V1_of m outs c (Pipeline.arrRef spec0 8) (by decide)).symm)
      | 9 => (((pdats m outs) 0 c).arrAt_in 9 rfl _).trans ((R0.A_eq (Ve0 m) c 9).trans (V1_of m outs c (Pipeline.arrRef spec0 9) (by decide)).symm)
      | 10 => (ho.q c).symm.trans (V1_v0_0 m outs c).symm
      | 11 => (ho.enc c).symm.trans (V1_v0_1 m outs c).symm
      | 12 => (ho.loss c).symm.trans (V1_v0_2 m outs c).symm
      | 13 => (ho.perp c).symm.trans (V1_v0_3 m outs c).symm)

set_option backward.isDefEq.respectTransparency.types false in
/-- The decoder's region, from what the encoder's left. -/
def S1 : RegionSeg (pcfgs (F := F)) adm (pdats m outs) () defs₀ Variants.none L lv 1 :=
  Pipeline.RegionSeg.ofHeld (pcfgs (F := F)) adm (pdats m outs) () defs₀ Variants.none L lv 1 (fun _ => 0)
    (fun c => iprop(∃ r, prngReg c r)) (fun c => iprop(∃ r, prngReg c r))
    launch1.toP rfl
    (fun c => (R1.body_obligation (Ve1 m outs) c).loose) (fun _ _ => rfl) (fun _ => rfl)
    (fun c => ((pdats m outs) 1 c).share_full fun _ => rfl) (fun _ => .rfl) (fun _ => .rfl) (fun _ => 0) (cut 1)
    (fun c => StableHlo.held (c : Thread nD τ) ((Pipeline.ucRefs τ sig) \ Pipeline.arrRefs (τ := τ) spec1) (V1 m outs c))
    (V1 m outs) (V2 m outs) (fun _ _ => rfl)
    (fun c => fun
      | 0 => (((pdats m outs) 1 c).arrAt_in 0 rfl _).trans ((R1.A_eq (Ve1 m outs) c 0).trans (V2_of m outs c (Pipeline.arrRef spec1 0) (by decide)).symm)
      | 1 => (((pdats m outs) 1 c).arrAt_in 1 rfl _).trans ((R1.A_eq (Ve1 m outs) c 1).trans (V2_of m outs c (Pipeline.arrRef spec1 1) (by decide)).symm)
      | 2 => (((pdats m outs) 1 c).arrAt_in 2 rfl _).trans ((R1.A_eq (Ve1 m outs) c 2).trans (V2_of m outs c (Pipeline.arrRef spec1 2) (by decide)).symm)
      | 3 => (((pdats m outs) 1 c).arrAt_in 3 rfl _).trans ((R1.A_eq (Ve1 m outs) c 3).trans (V2_of m outs c (Pipeline.arrRef spec1 3) (by decide)).symm)
      | 4 => (((pdats m outs) 1 c).arrAt_in 4 rfl _).trans ((R1.A_eq (Ve1 m outs) c 4).trans (V2_of m outs c (Pipeline.arrRef spec1 4) (by decide)).symm)
      | 5 => (((pdats m outs) 1 c).arrAt_in 5 rfl _).trans ((R1.A_eq (Ve1 m outs) c 5).trans (V2_of m outs c (Pipeline.arrRef spec1 5) (by decide)).symm)
      | 6 => (((pdats m outs) 1 c).arrAt_in 6 rfl _).trans ((R1.A_eq (Ve1 m outs) c 6).trans (V2_of m outs c (Pipeline.arrRef spec1 6) (by decide)).symm)
      | 7 => (((pdats m outs) 1 c).arrAt_in 7 rfl _).trans ((R1.A_eq (Ve1 m outs) c 7).trans (V2_of m outs c (Pipeline.arrRef spec1 7) (by decide)).symm)
      | 8 => (((pdats m outs) 1 c).arrAt_in 8 rfl _).trans ((R1.A_eq (Ve1 m outs) c 8).trans (V2_of m outs c (Pipeline.arrRef spec1 8) (by decide)).symm)
      | 9 => (ho.dec c).symm.trans (V2_v1 m outs c).symm)

theorem hpre0 (c : Dev nD) : iprop(StableHlo.held (c : Thread nD τ) (Pipeline.ucRefs τ sig) (V0 m c) ∗ Er (F := F) c) ⊢ (S0 m ho).pre c := by
  show _ ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem hpost0 (c : Dev nD) : (S0 m ho).post c ⊢ iprop(StableHlo.held (c : Thread nD τ) (Pipeline.ucRefs τ sig) (V1 m outs c) ∗ Er (F := F) c) := by
  show iprop(StableHlo.held (c : Thread nD τ) (Pipeline.arrRefs (τ := τ) spec0) (V1 m outs c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W) ⊢ _
  rw [StableHlo.held_sub_split (c : Thread nD τ) arr0_S (V1 m outs c),
    StableHlo.held_congr (c : Thread nD τ) (S := (Pipeline.ucRefs τ sig) \ Pipeline.arrRefs (τ := τ) spec0) (rest0_eq m outs c)]
  iintro ⟨Ha, Hp, Hr, HO⟩
  isplitl [Ha Hr]; · isplitl [Ha] <;> iassumption
  isplitl [Hp]; · iexact Hp
  iexact HO

theorem hpre1 (c : Dev nD) : iprop(StableHlo.held (c : Thread nD τ) (Pipeline.ucRefs τ sig) (V1 m outs c) ∗ Er (F := F) c) ⊢ (S1 m ho).pre c := by
  show _ ⊢ iprop(StableHlo.held (c : Thread nD τ) (Pipeline.arrRefs (τ := τ) spec1) (V1 m outs c) ∗ (∃ r, prngReg c r)
    ∗ StableHlo.held (c : Thread nD τ) ((Pipeline.ucRefs τ sig) \ Pipeline.arrRefs (τ := τ) spec1) (V1 m outs c) ∗ ∃ W, owes (c : Thread nD τ) (0 : CellTallies nD τ sig Unit) W)
  rw [StableHlo.held_sub_split (c : Thread nD τ) arr1_S (V1 m outs c)]
  iintro ⟨⟨Ha, Hr⟩, Hp, HO⟩
  isplitl [Ha]; · iexact Ha
  isplitl [Hp]; · iexact Hp
  isplitl [Hr]; · iexact Hr
  iexact HO

theorem hpost1 (c : Dev nD) : (S1 m ho).post c ⊢ iprop(StableHlo.held (c : Thread nD τ) (Pipeline.ucRefs τ sig) (V2 m outs c) ∗ Er (F := F) c) := by
  show iprop(StableHlo.held (c : Thread nD τ) (Pipeline.arrRefs (τ := τ) spec1) (V2 m outs c) ∗ (∃ r, prngReg c r)
    ∗ StableHlo.held (c : Thread nD τ) ((Pipeline.ucRefs τ sig) \ Pipeline.arrRefs (τ := τ) spec1) (V1 m outs c) ∗ ∃ W, owes (c : Thread nD τ) (0 : CellTallies nD τ sig Unit) W) ⊢ _
  rw [StableHlo.held_sub_split (c : Thread nD τ) arr1_S (V2 m outs c),
    StableHlo.held_congr (c : Thread nD τ) (S := (Pipeline.ucRefs τ sig) \ Pipeline.arrRefs (τ := τ) spec1) (rest1_eq m outs c)]
  iintro ⟨Ha, Hp, Hr, HO⟩
  isplitl [Ha Hr]; · isplitl [Ha] <;> iassumption
  isplitl [Hp]; · iexact Hp
  iexact HO

/-! ## The launch -/

/-- The launch's ghost state: the pipelines' alone. -/
abbrev u₀ : UR sig nD τ := initOf (Pipeline.cells cfgs cellOf_inj) (Pipeline.launchToks cfgs cellOf_inj)

include ho in
set_option backward.isDefEq.respectTransparency.types false in
/-- Every weakly fair execution of @main terminates with each core's unscoped buffers at the last valuation and every counter at zero. -/
theorem run_outs (ρ : Dev nD → PrngReg) :
    θ_run defs (onTc (τ := τ) (main (F := F))) ⟨m, fun _ => 0, ρ⟩ (fun r => (∀ c : Dev nD, ∀ b ∈ Pipeline.ucRefs τ sig, r.2.mem (c, b) = V3 m outs c b)
      ∧ r.2.sem = fun _ => 0) := by
  refine Pipeline.θ_run_regions_kit_dev_sems (pcfgs (F := F)) adm (pdats m outs) () cellOf_inj emb₁ defs₀ Variants.none L lv m ρ main
    (segs m outs Variants.none L lv (fun _ c => Er c) () (pdats m outs) (S0 m ho) (S1 m ho))
    (fun c Q => by
      rewrite [main_chain c, Seg.run_eq_chain,
        show (segs m outs Variants.none L lv (fun _ c => Er c) () (pdats m outs) (S0 m ho) (S1 m ho) c).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) u₀
    (by
      iintro Hu; imodintro
      isplitl [Hu]
      · iapply (show (ownU u₀ : sProp 𝕄) ⊢ BI.own (emb₁ u₀) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Er c))
    (Tₙ := fun c => StableHlo.held (c : Thread nD τ) (Pipeline.ucRefs τ sig) (V3 m outs c))
    (hch := fun c => ⟨hpre0 m ho c, (hpost0 m ho c).trans (hpre1 m ho c), hpost1 m ho c, sep_mono .rfl (by iintro ⟨-, H⟩; iexact H)⟩)
    (hinit := ?_) (QY := fun c s => ∀ b ∈ Pipeline.ucRefs τ sig, s.mem (c, b) = V3 m outs c b)
    (hfin := fun c s' => ?_) (hQ := fun _ h hz => ⟨h, funext fun g => hz g (.inr (regions_no_unscoped g.2))⟩)
  · refine Pipeline.initEach L lv fun c => ?_
    rw [show (fun b : Ref sig .tc => m ((c.tc : Thread nD τ).loc b)) = fun b => V0 m c (Proc.devRef .tc b) from rfl,
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro; exact h
    · iexact HSI

omit ho in
/-- The run, at the contents the regions leave. -/
theorem run (ρ : Dev nD → PrngReg) :
    θ_run defs (onTc (τ := τ) (main (F := F))) ⟨m, fun _ => 0, ρ⟩ (fun r => (∀ c : Dev nD, ∀ b ∈ Pipeline.ucRefs τ sig, r.2.mem (c, b) = V3 m (outsB m) c b)
      ∧ r.2.sem = fun _ => 0) :=
  run_outs m (isOuts_outsB m) ρ

end Cert.VQ

end
-- ==== Proof.Same.lean ====
/- The kernel's program as printed and its idealized one are the same text, read at two arithmetics: the two programs are equal at
   any arithmetic, so one run serves both. -/
module

public import proofs.«01_k».proof.KernelIdeal
public import proofs.«01_k».proof.Kernel

@[expose] public section

set_option maxRecDepth 65536
set_option maxHeartbeats 1000000

noncomputable section

namespace Cert.VQ.Same

open Idealize.ShloMosaic

variable {F : FTy → Type} [FloatOps F] [hK : Cert.Kernel.Facts] [hI : Cert.KernelIdeal.Facts]

/-- The decoder's body on equal buffers is the same program. -/
theorem congr1 : ∀ i j a0 p0 a1 p1 a2 p2 a3 p3 a4 p4 a5 p5 a6 p6 a7 p7 a8 p8 a9 p9 b0 q0 b1 q1 b2 q2 b3 q3 b4 q4 b5 q5 b6 q6 b7 q7 b8 q8 b9 q9, i = j → a0 = b0 → a1 = b1 → a2 = b2 → a3 = b3 → a4 = b4 → a5 = b5 → a6 = b6 → a7 = b7 → a8 = b8 → a9 = b9 →
    Cert.KernelIdeal.cc1__dec_body (F := F) i a0 p0 a1 p1 a2 p2 a3 p3 a4 p4 a5 p5 a6 p6 a7 p7 a8 p8 a9 p9 = Cert.KernelIdeal.cc1__dec_body (F := F) j b0 q0 b1 q1 b2 q2 b3 q3 b4 q4 b5 q5 b6 q6 b7 q7 b8 q8 b9 q9 := by
  intros; subst_vars; rfl

theorem body1 : Cert.Kernel.cc1__dec_body (F := F) = Cert.KernelIdeal.cc1__dec_body (F := F) := rfl

/-- The decoder's row of the two body tables. -/
theorem row1 (t s) : Cert.Kernel.defs₀ (F := F) .tc 1 (t, s) = Cert.KernelIdeal.defs₀ (F := F) .tc 1 (t, s) := by
  unfold Cert.Kernel.defs₀ Cert.KernelIdeal.defs₀
  rw [Defs.onTc_tc, Defs.onTc_tc]
  dsimp only
  rw [body1]
  exact congr1 _ _ _ _ _ _ _ _ _ _ _ _ _ _ _ _ _ _ _ _ _ _ _ _ _ _ _ _ _ _ _ _ _ _ _ _ _ _ _ _ _ _ rfl
    (congrFun (show Cert.Kernel.stage1_0 = Cert.KernelIdeal.stage1_0 from rfl) (s 0))
    (congrFun (show Cert.Kernel.stage1_1 = Cert.KernelIdeal.stage1_1 from rfl) (s 1))
    (congrFun (show Cert.Kernel.stage1_2 = Cert.KernelIdeal.stage1_2 from rfl) (s 2))
    (congrFun (show Cert.Kernel.stage1_3 = Cert.KernelIdeal.stage1_3 from rfl) (s 3))
    (congrFun (show Cert.Kernel.stage1_4 = Cert.KernelIdeal.stage1_4 from rfl) (s 4))
    (congrFun (show Cert.Kernel.stage1_5 = Cert.KernelIdeal.stage1_5 from rfl) (s 5))
    (congrFun (show Cert.Kernel.stage1_6 = Cert.KernelIdeal.stage1_6 from rfl) (s 6))
    (congrFun (show Cert.Kernel.stage1_7 = Cert.KernelIdeal.stage1_7 from rfl) (s 7))
    (congrFun (show Cert.Kernel.stage1_8 = Cert.KernelIdeal.stage1_8 from rfl) (s 8))
    (congrFun (show Cert.Kernel.stage1_9 = Cert.KernelIdeal.stage1_9 from rfl) (s 9))

/-- The encoder's body on equal buffers is the same program. -/
theorem congr0 : ∀ i j a0 p0 a1 p1 a2 p2 a3 p3 a4 p4 a5 p5 a6 p6 a7 p7 a8 p8 a9 p9 a10 p10 a11 p11 a12 p12 a13 p13 a14 p14 a15 p15 b0 q0 b1 q1 b2 q2 b3 q3 b4 q4 b5 q5 b6 q6 b7 q7 b8 q8 b9 q9 b10 q10 b11 q11 b12 q12 b13 q13 b14 q14 b15 q15, i = j → a0 = b0 → a1 = b1 → a2 = b2 → a3 = b3 → a4 = b4 → a5 = b5 → a6 = b6 → a7 = b7 → a8 = b8 → a9 = b9 → a10 = b10 → a11 = b11 → a12 = b12 → a13 = b13 → a14 = b14 → a15 = b15 →
    Cert.KernelIdeal.cc0__encvq_body (F := F) i a0 p0 a1 p1 a2 p2 a3 p3 a4 p4 a5 p5 a6 p6 a7 p7 a8 p8 a9 p9 a10 p10 a11 p11 a12 p12 a13 p13 a14 p14 a15 p15 = Cert.KernelIdeal.cc0__encvq_body (F := F) j b0 q0 b1 q1 b2 q2 b3 q3 b4 q4 b5 q5 b6 q6 b7 q7 b8 q8 b9 q9 b10 q10 b11 q11 b12 q12 b13 q13 b14 q14 b15 q15 := by
  intros; subst_vars; rfl

theorem body0 : Cert.Kernel.cc0__encvq_body (F := F) = Cert.KernelIdeal.cc0__encvq_body (F := F) := rfl

/-- The encoder's row of the two body tables. -/
theorem row0 (t s) : Cert.Kernel.defs₀ (F := F) .tc 0 (t, s) = Cert.KernelIdeal.defs₀ (F := F) .tc 0 (t, s) := by
  unfold Cert.Kernel.defs₀ Cert.KernelIdeal.defs₀
  rw [Defs.onTc_tc, Defs.onTc_tc]
  dsimp only
  rw [body0]
  exact congr0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ rfl
    (congrFun (show Cert.Kernel.stage0_0 = Cert.KernelIdeal.stage0_0 from rfl) (s 0))
    (congrFun (show Cert.Kernel.stage0_1 = Cert.KernelIdeal.stage0_1 from rfl) (s 1))
    (congrFun (show Cert.Kernel.stage0_2 = Cert.KernelIdeal.stage0_2 from rfl) (s 2))
    (congrFun (show Cert.Kernel.stage0_3 = Cert.KernelIdeal.stage0_3 from rfl) (s 3))
    (congrFun (show Cert.Kernel.stage0_4 = Cert.KernelIdeal.stage0_4 from rfl) (s 4))
    (congrFun (show Cert.Kernel.stage0_5 = Cert.KernelIdeal.stage0_5 from rfl) (s 5))
    (congrFun (show Cert.Kernel.stage0_6 = Cert.KernelIdeal.stage0_6 from rfl) (s 6))
    (congrFun (show Cert.Kernel.stage0_7 = Cert.KernelIdeal.stage0_7 from rfl) (s 7))
    (congrFun (show Cert.Kernel.stage0_8 = Cert.KernelIdeal.stage0_8 from rfl) (s 8))
    (congrFun (show Cert.Kernel.stage0_9 = Cert.KernelIdeal.stage0_9 from rfl) (s 9))
    (congrFun (show Cert.Kernel.stage0_10 = Cert.KernelIdeal.stage0_10 from rfl) (s 10))
    (congrFun (show Cert.Kernel.stage0_11 = Cert.KernelIdeal.stage0_11 from rfl) (s 11))
    (congrFun (show Cert.Kernel.stage0_12 = Cert.KernelIdeal.stage0_12 from rfl) (s 12))
    (congrFun (show Cert.Kernel.stage0_13 = Cert.KernelIdeal.stage0_13 from rfl) (s 13)) rfl rfl

/-- The two body tables are equal, -/
theorem defs₀_eq : Cert.Kernel.defs₀ (F := F) = Cert.KernelIdeal.defs₀ (F := F) := by
  funext p l x
  cases p with
  | tc =>
    match l, x with
    | 0, (t, s) => exact row0 t s
    | 1, (t, s) => exact row1 t s
  | scScalar _ => rfl
  | scVector _ _ => rfl

/-- with the regions' entries too, -/
theorem defs_eq : Cert.Kernel.defs (F := F) = Cert.KernelIdeal.defs (F := F) :=
  congrArg (Pipeline.defs (Cert.KernelIdeal.pcfgs (F := F))) defs₀_eq

/-- and so are the two main programs. -/
theorem main_eq : Cert.Kernel.main (F := F) = Cert.KernelIdeal.main (F := F) := rfl

end Cert.VQ.Same

end
-- ==== Proof.Frame.lean ====
/- The frame claims of the kernel, at the rounded and at the idealized arithmetic: one run, read off at the arguments. -/
module

public import proofs.«01_k».proof.Proof.Run
public import proofs.«01_k».proof.Proof.Same
public import proofs.«01_k».proof.Defs
public import proofs.«01_k».proof.Proof.Gen.Kernel.Launch

@[expose] public section

set_option maxRecDepth 16384

noncomputable section

namespace Cert.VQ

open Cert.KernelIdeal Cert.KernelIdeal.Gen
open Idealize.ShloMosaic Idealize.ShloMosaic.TcCoe
open Idealize.SL.Sem

variable {F : FTy → Type} [FloatOps F]

theorem mem_uc (r : Ref sig .tc) (h : ¬ (Proc.devRef (τ := τ) .tc r).isScoped = true) : Proc.devRef .tc r ∈ Pipeline.ucRefs τ sig :=
  Finset.mem_filter.mpr ⟨StableHlo.devRef_mem_tcRefs r, h⟩

/-- The arguments end as launched and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  refine (θ_run _ _ _).mono (fun r h => ⟨fun c => ?_, h.2⟩) (run m ρ)
  have k (r' : Ref sig .tc) (hr : ¬ (Proc.devRef (τ := τ) .tc r').isScoped = true) := h.1 c (Proc.devRef .tc r') (mem_uc r' hr)
  exact ⟨(k main_arg0 (by decide)).trans (V3_main_arg0 m _ c), (k main_arg1 (by decide)).trans (V3_main_arg1 m _ c),
    (k main_arg2 (by decide)).trans (V3_main_arg2 m _ c), (k main_arg3 (by decide)).trans (V3_main_arg3 m _ c),
    (k main_arg4 (by decide)).trans (V3_main_arg4 m _ c), (k main_arg5 (by decide)).trans (V3_main_arg5 m _ c),
    (k main_arg6 (by decide)).trans (V3_main_arg6 m _ c), (k main_arg7 (by decide)).trans (V3_main_arg7 m _ c),
    (k main_arg8 (by decide)).trans (V3_main_arg8 m _ c), (k main_arg9 (by decide)).trans (V3_main_arg9 m _ c),
    (k main_arg10 (by decide)).trans (V3_main_arg10 m _ c), (k main_arg11 (by decide)).trans (V3_main_arg11 m _ c),
    (k main_arg12 (by decide)).trans (V3_main_arg12 m _ c), (k main_arg13 (by decide)).trans (V3_main_arg13 m _ c),
    (k main_arg14 (by decide)).trans (V3_main_arg14 m _ c), (k main_arg15 (by decide)).trans (V3_main_arg15 m _ c),
    (k main_arg16 (by decide)).trans (V3_main_arg16 m _ c), (k main_arg17 (by decide)).trans (V3_main_arg17 m _ c)⟩

/-- The frame at the idealized arithmetic; -/
theorem quiescent_ideal : Cert.quiescent_KernelIdeal (hKernelIdeal := Cert.KernelIdeal.Gen.facts) := fun m g _ => frame m g

/-- A run of the idealized program's text is a run of the printed program's. -/
theorem run_same [Cert.Kernel.Facts] (s : MemSt nD τ sig (Elt F)) (Q : PUnit × MemSt nD τ sig (Elt F) → Prop)
    (h : θ_run defs (onTc (τ := τ) (main (F := F))) s Q) :
    θ_run (Cert.Kernel.defs (F := F)) (onTc (τ := τ) (Cert.Kernel.main (F := F))) s Q :=
  (congrArg (fun d => θ_run d (onTc (τ := τ) (main (F := F))) s Q) (Same.defs_eq (F := F))).mpr h

/-- the two kernels are one program, so at the rounded arithmetic too. -/
theorem quiescent_rounded : Cert.quiescent_Kernel (hKernel := Cert.Kernel.Gen.facts) := fun m g _ =>
  letI := Cert.Kernel.Gen.facts
  run_same (F := Bits) _ _ (frame (F := Bits) m g)

end Cert.VQ

end
-- ==== Proof.RefRun.lean ====
/- The reference's @main as a line of host operations in four stages, each result written as a function of what the stage
   reads, and the run read back through them. -/
module

public import proofs.«01_k».proof.Proof.Gen.ReferenceIdeal
public import proofs.«01_k».proof.Defs
public import Idealize.ShloMosaic.Lib.StableHlo.Run
public import Idealize.ShloMosaic.Lib.Quiescent

@[expose] public section

set_option maxRecDepth 16384

noncomputable section

namespace Cert.VQRef

open Cert.ReferenceIdeal Cert.ReferenceIdeal.Gen
open Idealize.ShloMosaic Idealize.ShloMosaic.TcCoe Idealize.ShloMosaic.StableHlo
open Idealize.SL.Sem

variable {F : FTy → Type} [FloatOps F]

/-- The contents of an f32 array of shape `s`. -/
abbrev Arr (F : FTy → Type) (s : Shape) : Type := (⟨s, .f32⟩ : BufTy).Contents (Elt F)

/-- The contents of an i32 array of shape `s`. -/
abbrev IArr (F : FTy → Type) (s : Shape) : Type := (⟨s, .i32⟩ : BufTy).Contents (Elt F)

/-! ## The stages' values -/

/-- The scalar of the word `w`. -/
abbrev scal (F : FTy → Type) [FloatOps F] (w : BitVec 32) : Arr F S_ := constant S_ .f32 w

/-- The encoder: rows to rows of 256. -/
def encode (x : Arr F S8192x2048) (W1 : Arr F S2048x1024) (b1 : Arr F S1024) (W2 : Arr F S1024x512) (b2 : Arr F S512)
    (W3 : Arr F S512x256) (b3 : Arr F S256) (W4 : Arr F S256x256) (b4 : Arr F S256) : Arr F S8192x256 :=
  let h1 : Arr F S8192x1024 := maximumf (addf (Host.dotGeneral dot_S8192x2048_S2048x1024_S8192x1024_1_0_0_1_n_n none x W1)
    (broadcastInDim S8192x1024 ![0, 1] bcast_S1x1024_S8192x1024_0_1 (broadcastInDim S1x1024 ![1] bcast_S1024_S1x1024_1 b1)))
    (broadcastInDim S8192x1024 ![] bcast_S_S8192x1024 (scal F 0x00000000#32))
  let h2 : Arr F S8192x512 := maximumf (addf (Host.dotGeneral dot_S8192x1024_S1024x512_S8192x512_1_0_0_1_n_n none h1 W2)
    (broadcastInDim S8192x512 ![0, 1] bcast_S1x512_S8192x512_0_1 (broadcastInDim S1x512 ![1] bcast_S512_S1x512_1 b2)))
    (broadcastInDim S8192x512 ![] bcast_S_S8192x512 (scal F 0x00000000#32))
  let h3 : Arr F S8192x256 := maximumf (addf (Host.dotGeneral dot_S8192x512_S512x256_S8192x256_1_0_0_1_n_n none h2 W3)
    (broadcastInDim S8192x256 ![0, 1] bcast_S1x256_S8192x256_0_1 (broadcastInDim S1x256 ![1] bcast_S256_S1x256_1 b3)))
    (broadcastInDim S8192x256 ![] bcast_S_S8192x256 (scal F 0x00000000#32))
  addf (Host.dotGeneral dot_S8192x256_S256x256_S8192x256_1_0_0_1_n_n none h3 W4)
    (broadcastInDim S8192x256 ![0, 1] bcast_S1x256_S8192x256_0_1 (broadcastInDim S1x256 ![1] bcast_S256_S1x256_1 b4))

/-- The squared distances of the rows to the table's. -/
def dists (z : Arr F S8192x256) (E : Arr F S1024x256) : Arr F S8192x1024 :=
  subf (addf
      (broadcastInDim S8192x1024 ![0, 1] bcast_S8192x1_S8192x1024_0_1 (broadcastInDim S8192x1 ![0] bcast_S8192_S8192x1_0
        (Host.reduceAdd (mulf z z) (scal F 0x00000000#32) reducesTo_S8192x256_S8192_d1 h_S_)))
      (broadcastInDim S8192x1024 ![0, 1] bcast_S1x1024_S8192x1024_0_1 (broadcastInDim S1x1024 ![1] bcast_S1024_S1x1024_1
        (Host.reduceAdd (mulf E E) (scal F 0x00000000#32) reducesTo_S1024x256_S1024_d1 h_S_))))
    (Host.dotGeneral dot_S8192x256_S256x1024_S8192x1024_1_0_0_1_n_n none
      (mulf (broadcastInDim S8192x256 ![] bcast_S_S8192x256 (scal F 0x40000000#32)) z)
      (transpose S256x1024 [1, 0] E transposes_S1024x256_S256x1024_1_0))

/-- The position of each row's least distance, the first at a tie. -/
def nearest (d : Arr F S8192x1024) : IArr F S8192 := fun j =>
  (Host.argReduce reducer_argmin_f32_i32 d (iotaInDim S8192x1024 32 1) (scal F 0x7F800000#32) (constantI S_ 32 0#32)
    reducesTo_S8192x1024_S8192_d1 h_S_ j).2

/-- The one-hot rows of the positions. -/
def oneHot (p : IArr F S8192) : Arr F S8192x1024 :=
  uitofp .f32 (cmpi .eq
    (broadcastInDim S8192x1024 ![0, 1] bcast_S8192x1_S8192x1024_0_1 (broadcastInDim S8192x1 ![0] bcast_S8192_S8192x1_0 p))
    (broadcastInDim S8192x1024 ![0, 1] bcast_S1x1024_S8192x1024_0_1 (iotaInDim S1x1024 32 1)))

/-- The codes of the rows: the one-hot rows of their nearest entries. -/
def encodings (z : Arr F S8192x256) (E : Arr F S1024x256) : Arr F S8192x1024 := oneHot (nearest (dists z E))

/-- The table's rows the codes pick. -/
def picked (e : Arr F S8192x1024) (E : Arr F S1024x256) : Arr F S8192x256 :=
  Host.dotGeneral dot_S8192x1024_S1024x256_S8192x256_1_0_0_1_n_n none e E

/-- The mean square of the difference. -/
def meanSq (q z : Arr F S8192x256) : Arr F S_ :=
  Host.divf (Host.reduceAdd (mulf (subf q z) (subf q z)) (scal F 0x00000000#32) reducesTo_S8192x256_S_d0_1 h_S_) (scal F 0x4A000000#32)

/-- The loss: the mean square and a quarter of it. -/
def loss (q z : Arr F S8192x256) : Arr F S_ := addf (meanSq q z) (mulf (scal F 0x3E800000#32) (meanSq q z))

/-- The quantised rows. -/
def quantized (q z : Arr F S8192x256) : Arr F S8192x256 := addf z (subf q z)

/-- The codes' frequencies. -/
def probs (e : Arr F S8192x1024) : Arr F S1024 :=
  Host.divf (Host.reduceAdd e (scal F 0x00000000#32) reducesTo_S8192x1024_S1024_d0 h_S_)
    (broadcastInDim S1024 ![] bcast_S_S1024 (scal F 0x46000000#32))

/-- The perplexity of the codes. -/
def perplexity (e : Arr F S8192x1024) : Arr F S_ :=
  Host.exp (Host.negf (Host.reduceAdd
    (mulf (probs e) (Host.log (addf (probs e) (broadcastInDim S1024 ![] bcast_S_S1024 (scal F 0x2EDBE6FF#32)))))
    (scal F 0x00000000#32) reducesTo_S1024_S_d0 h_S_))

/-- The decoder: quantised rows to rows of 2048. -/
def decode (q : Arr F S8192x256) (W1 : Arr F S256x512) (b1 : Arr F S512) (W2 : Arr F S512x1024) (b2 : Arr F S1024)
    (W3 : Arr F S1024x2048) (b3 : Arr F S2048) (W4 : Arr F S2048x2048) (b4 : Arr F S2048) : Arr F S8192x2048 :=
  let h1 : Arr F S8192x512 := maximumf (addf (Host.dotGeneral dot_S8192x256_S256x512_S8192x512_1_0_0_1_n_n none q W1)
    (broadcastInDim S8192x512 ![0, 1] bcast_S1x512_S8192x512_0_1 (broadcastInDim S1x512 ![1] bcast_S512_S1x512_1 b1)))
    (broadcastInDim S8192x512 ![] bcast_S_S8192x512 (scal F 0x00000000#32))
  let h2 : Arr F S8192x1024 := maximumf (addf (Host.dotGeneral dot_S8192x512_S512x1024_S8192x1024_1_0_0_1_n_n none h1 W2)
    (broadcastInDim S8192x1024 ![0, 1] bcast_S1x1024_S8192x1024_0_1 (broadcastInDim S1x1024 ![1] bcast_S1024_S1x1024_1 b2)))
    (broadcastInDim S8192x1024 ![] bcast_S_S8192x1024 (scal F 0x00000000#32))
  let h3 : Arr F S8192x2048 := maximumf (addf (Host.dotGeneral dot_S8192x1024_S1024x2048_S8192x2048_1_0_0_1_n_n none h2 W3)
    (broadcastInDim S8192x2048 ![0, 1] bcast_S1x2048_S8192x2048_0_1 (broadcastInDim S1x2048 ![1] bcast_S2048_S1x2048_1 b3)))
    (broadcastInDim S8192x2048 ![] bcast_S_S8192x2048 (scal F 0x00000000#32))
  addf (Host.dotGeneral dot_S8192x2048_S2048x2048_S8192x2048_1_0_0_1_n_n none h3 W4)
    (broadcastInDim S8192x2048 ![0, 1] bcast_S1x2048_S8192x2048_0_1 (broadcastInDim S1x2048 ![1] bcast_S2048_S1x2048_1 b4))

/-! ## The operations -/

/-- The encoder: four products with their biases, three of them rectified. -/
abbrev opsEnc : List (HloOp τ sig (Elt F)) :=
  [ binary main_arg0 main_arg1 main_v0 ((fun l r => Host.dotGeneral dot_S8192x2048_S2048x1024_S8192x1024_1_0_0_1_n_n none l r) : Arr F S8192x2048 → Arr F S2048x1024 → Arr F S8192x1024),
    unary main_arg2 main_v1 (broadcastInDim S1x1024 ![1] bcast_S1024_S1x1024_1 : Arr F S1024 → Arr F S1x1024),
    unary main_v1 main_v2 (broadcastInDim S8192x1024 ![0, 1] bcast_S1x1024_S8192x1024_0_1 : Arr F S1x1024 → Arr F S8192x1024),
    binary main_v0 main_v2 main_v3 (addf : Arr F S8192x1024 → Arr F S8192x1024 → Arr F S8192x1024),
    TRef.nullary (TRef.of (T := ⟨S_, .f32⟩) main_call0_cst) (constant S_ .f32 0x00000000#32),
    TRef.unary (TRef.of (T := ⟨S_, .f32⟩) main_call0_cst) (TRef.of (T := ⟨S8192x1024, .f32⟩) main_call0_v0) (broadcastInDim S8192x1024 ![] bcast_S_S8192x1024),
    TRef.binary (TRef.of (T := ⟨S8192x1024, .f32⟩) main_v3) (TRef.of (T := ⟨S8192x1024, .f32⟩) main_call0_v0) (TRef.of (T := ⟨S8192x1024, .f32⟩) main_v4) maximumf,
    binary main_v4 main_arg3 main_v5 ((fun l r => Host.dotGeneral dot_S8192x1024_S1024x512_S8192x512_1_0_0_1_n_n none l r) : Arr F S8192x1024 → Arr F S1024x512 → Arr F S8192x512),
    unary main_arg4 main_v6 (broadcastInDim S1x512 ![1] bcast_S512_S1x512_1 : Arr F S512 → Arr F S1x512),
    unary main_v6 main_v7 (broadcastInDim S8192x512 ![0, 1] bcast_S1x512_S8192x512_0_1 : Arr F S1x512 → Arr F S8192x512),
    binary main_v5 main_v7 main_v8 (addf : Arr F S8192x512 → Arr F S8192x512 → Arr F S8192x512),
    TRef.nullary (TRef.of (T := ⟨S_, .f32⟩) main_call1_cst) (constant S_ .f32 0x00000000#32),
    TRef.unary (TRef.of (T := ⟨S_, .f32⟩) main_call1_cst) (TRef.of (T := ⟨S8192x512, .f32⟩) main_call1_v0) (broadcastInDim S8192x512 ![] bcast_S_S8192x512),
    TRef.binary (TRef.of (T := ⟨S8192x512, .f32⟩) main_v8) (TRef.of (T := ⟨S8192x512, .f32⟩) main_call1_v0) (TRef.of (T := ⟨S8192x512, .f32⟩) main_v9) maximumf,
    binary main_v9 main_arg5 main_v10 ((fun l r => Host.dotGeneral dot_S8192x512_S512x256_S8192x256_1_0_0_1_n_n none l r) : Arr F S8192x512 → Arr F S512x256 → Arr F S8192x256),
    unary main_arg6 main_v11 (broadcastInDim S1x256 ![1] bcast_S256_S1x256_1 : Arr F S256 → Arr F S1x256),
    unary main_v11 main_v12 (broadcastInDim S8192x256 ![0, 1] bcast_S1x256_S8192x256_0_1 : Arr F S1x256 → Arr F S8192x256),
    binary main_v10 main_v12 main_v13 (addf : Arr F S8192x256 → Arr F S8192x256 → Arr F S8192x256),
    TRef.nullary (TRef.of (T := ⟨S_, .f32⟩) main_call2_cst) (constant S_ .f32 0x00000000#32),
    TRef.unary (TRef.of (T := ⟨S_, .f32⟩) main_call2_cst) (TRef.of (T := ⟨S8192x256, .f32⟩) main_call2_v0) (broadcastInDim S8192x256 ![] bcast_S_S8192x256),
    TRef.binary (TRef.of (T := ⟨S8192x256, .f32⟩) main_v13) (TRef.of (T := ⟨S8192x256, .f32⟩) main_call2_v0) (TRef.of (T := ⟨S8192x256, .f32⟩) main_v14) maximumf,
    binary main_v14 main_arg7 main_v15 ((fun l r => Host.dotGeneral dot_S8192x256_S256x256_S8192x256_1_0_0_1_n_n none l r) : Arr F S8192x256 → Arr F S256x256 → Arr F S8192x256),
    unary main_arg8 main_v16 (broadcastInDim S1x256 ![1] bcast_S256_S1x256_1 : Arr F S256 → Arr F S1x256),
    unary main_v16 main_v17 (broadcastInDim S8192x256 ![0, 1] bcast_S1x256_S8192x256_0_1 : Arr F S1x256 → Arr F S8192x256),
    binary main_v15 main_v17 main_v18 (addf : Arr F S8192x256 → Arr F S8192x256 → Arr F S8192x256) ]

/-- The codes: squared distances to the table, each row's nearest entry, and its one-hot row. -/
abbrev opsCode : List (HloOp τ sig (Elt F)) :=
  [ binary main_v18 main_v18 main_v19 (mulf : Arr F S8192x256 → Arr F S8192x256 → Arr F S8192x256),
    nullary main_cst (constant S_ .f32 0x00000000#32),
    binary main_v19 main_cst main_v20 ((fun x v => Host.reduceAdd x v reducesTo_S8192x256_S8192_d1 h_S_) : Arr F S8192x256 → Arr F S_ → Arr F S8192),
    unary main_v20 main_v21 (broadcastInDim S8192x1 ![0] bcast_S8192_S8192x1_0 : Arr F S8192 → Arr F S8192x1),
    binary main_arg9 main_arg9 main_v22 (mulf : Arr F S1024x256 → Arr F S1024x256 → Arr F S1024x256),
    nullary main_cst_0 (constant S_ .f32 0x00000000#32),
    binary main_v22 main_cst_0 main_v23 ((fun x v => Host.reduceAdd x v reducesTo_S1024x256_S1024_d1 h_S_) : Arr F S1024x256 → Arr F S_ → Arr F S1024),
    unary main_v23 main_v24 (broadcastInDim S1x1024 ![1] bcast_S1024_S1x1024_1 : Arr F S1024 → Arr F S1x1024),
    unary main_v21 main_v25 (broadcastInDim S8192x1024 ![0, 1] bcast_S8192x1_S8192x1024_0_1 : Arr F S8192x1 → Arr F S8192x1024),
    unary main_v24 main_v26 (broadcastInDim S8192x1024 ![0, 1] bcast_S1x1024_S8192x1024_0_1 : Arr F S1x1024 → Arr F S8192x1024),
    binary main_v25 main_v26 main_v27 (addf : Arr F S8192x1024 → Arr F S8192x1024 → Arr F S8192x1024),
    nullary main_cst_1 (constant S_ .f32 0x40000000#32),
    unary main_cst_1 main_v28 (broadcastInDim S8192x256 ![] bcast_S_S8192x256 : Arr F S_ → Arr F S8192x256),
    binary main_v28 main_v18 main_v29 (mulf : Arr F S8192x256 → Arr F S8192x256 → Arr F S8192x256),
    unary main_arg9 main_v30 ((transpose S256x1024 [1, 0] · transposes_S1024x256_S256x1024_1_0) : Arr F S1024x256 → Arr F S256x1024),
    binary main_v29 main_v30 main_v31 ((fun l r => Host.dotGeneral dot_S8192x256_S256x1024_S8192x1024_1_0_0_1_n_n none l r) : Arr F S8192x256 → Arr F S256x1024 → Arr F S8192x1024),
    binary main_v27 main_v31 main_v32 (subf : Arr F S8192x1024 → Arr F S8192x1024 → Arr F S8192x1024),
    TRef.nullary (TRef.of (T := ⟨S8192x1024, .i32⟩) main_call3_v0) (iotaInDim S8192x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S8192x1024, .f32⟩) main_v32) (TRef.of (T := ⟨S8192x1024, .i32⟩) main_call3_v0) (TRef.of (T := ⟨S_, .f32⟩) main_call3_cst) (TRef.of (T := ⟨S_, .i32⟩) main_call3_c) (TRef.of (T := ⟨S8192, .f32⟩) main_call3_v1_0) (fun x y u v j => (Host.argReduce reducer_argmin_f32_i32 x y u v reducesTo_S8192x1024_S8192_d1 h_S_ j).1),
    TRef.quaternary (TRef.of (T := ⟨S8192x1024, .f32⟩) main_v32) (TRef.of (T := ⟨S8192x1024, .i32⟩) main_call3_v0) (TRef.of (T := ⟨S_, .f32⟩) main_call3_cst) (TRef.of (T := ⟨S_, .i32⟩) main_call3_c) (TRef.of (T := ⟨S8192, .i32⟩) main_v33) (fun x y u v j => (Host.argReduce reducer_argmin_f32_i32 x y u v reducesTo_S8192x1024_S8192_d1 h_S_ j).2),
    TRef.unary (TRef.of (T := ⟨S8192, .i32⟩) main_v33) (TRef.of (T := ⟨S8192x1, .i32⟩) main_call4_v0) (broadcastInDim S8192x1 ![0] bcast_S8192_S8192x1_0),
    TRef.nullary (TRef.of (T := ⟨S1x1024, .i32⟩) main_call4_v1) (iotaInDim S1x1024 32 1),
    TRef.unary (TRef.of (T := ⟨S8192x1, .i32⟩) main_call4_v0) (TRef.of (T := ⟨S8192x1024, .i32⟩) main_call4_v2) (broadcastInDim S8192x1024 ![0, 1] bcast_S8192x1_S8192x1024_0_1),
    TRef.unary (TRef.of (T := ⟨S1x1024, .i32⟩) main_call4_v1) (TRef.of (T := ⟨S8192x1024, .i32⟩) main_call4_v3) (broadcastInDim S8192x1024 ![0, 1] bcast_S1x1024_S8192x1024_0_1),
    TRef.binary (TRef.of (T := ⟨S8192x1024, .i32⟩) main_call4_v2) (TRef.of (T := ⟨S8192x1024, .i32⟩) main_call4_v3) (TRef.of (T := ⟨S8192x1024, .i1⟩) main_call4_v4) (cmpi .eq),
    TRef.unary (TRef.of (T := ⟨S8192x1024, .i1⟩) main_call4_v4) (TRef.of (T := ⟨S8192x1024, .f32⟩) main_v34) (uitofp .f32) ]

/-- The quantised rows, the loss and the perplexity of the codes. -/
abbrev opsLoss : List (HloOp τ sig (Elt F)) :=
  [ binary main_v34 main_arg9 main_v35 ((fun l r => Host.dotGeneral dot_S8192x1024_S1024x256_S8192x256_1_0_0_1_n_n none l r) : Arr F S8192x1024 → Arr F S1024x256 → Arr F S8192x256),
    binary main_v35 main_v18 main_v36 (subf : Arr F S8192x256 → Arr F S8192x256 → Arr F S8192x256),
    binary main_v36 main_v36 main_v37 (mulf : Arr F S8192x256 → Arr F S8192x256 → Arr F S8192x256),
    nullary main_cst_2 (constant S_ .f32 0x00000000#32),
    binary main_v37 main_cst_2 main_v38 ((fun x v => Host.reduceAdd x v reducesTo_S8192x256_S_d0_1 h_S_) : Arr F S8192x256 → Arr F S_ → Arr F S_),
    nullary main_cst_3 (constant S_ .f32 0x4A000000#32),
    binary main_v38 main_cst_3 main_v39 (Host.divf : Arr F S_ → Arr F S_ → Arr F S_),
    binary main_v35 main_v18 main_v40 (subf : Arr F S8192x256 → Arr F S8192x256 → Arr F S8192x256),
    binary main_v40 main_v40 main_v41 (mulf : Arr F S8192x256 → Arr F S8192x256 → Arr F S8192x256),
    nullary main_cst_4 (constant S_ .f32 0x00000000#32),
    binary main_v41 main_cst_4 main_v42 ((fun x v => Host.reduceAdd x v reducesTo_S8192x256_S_d0_1 h_S_) : Arr F S8192x256 → Arr F S_ → Arr F S_),
    nullary main_cst_5 (constant S_ .f32 0x4A000000#32),
    binary main_v42 main_cst_5 main_v43 (Host.divf : Arr F S_ → Arr F S_ → Arr F S_),
    nullary main_cst_6 (constant S_ .f32 0x3E800000#32),
    binary main_cst_6 main_v39 main_v44 (mulf : Arr F S_ → Arr F S_ → Arr F S_),
    binary main_v43 main_v44 main_v45 (addf : Arr F S_ → Arr F S_ → Arr F S_),
    binary main_v35 main_v18 main_v46 (subf : Arr F S8192x256 → Arr F S8192x256 → Arr F S8192x256),
    binary main_v18 main_v46 main_v47 (addf : Arr F S8192x256 → Arr F S8192x256 → Arr F S8192x256),
    nullary main_cst_7 (constant S_ .f32 0x00000000#32),
    binary main_v34 main_cst_7 main_v48 ((fun x v => Host.reduceAdd x v reducesTo_S8192x1024_S1024_d0 h_S_) : Arr F S8192x1024 → Arr F S_ → Arr F S1024),
    nullary main_cst_8 (constant S_ .f32 0x46000000#32),
    unary main_cst_8 main_v49 (broadcastInDim S1024 ![] bcast_S_S1024 : Arr F S_ → Arr F S1024),
    binary main_v48 main_v49 main_v50 (Host.divf : Arr F S1024 → Arr F S1024 → Arr F S1024),
    nullary main_cst_9 (constant S_ .f32 0x2EDBE6FF#32),
    unary main_cst_9 main_v51 (broadcastInDim S1024 ![] bcast_S_S1024 : Arr F S_ → Arr F S1024),
    binary main_v50 main_v51 main_v52 (addf : Arr F S1024 → Arr F S1024 → Arr F S1024),
    unary main_v52 main_v53 (Host.log : Arr F S1024 → Arr F S1024),
    binary main_v50 main_v53 main_v54 (mulf : Arr F S1024 → Arr F S1024 → Arr F S1024),
    nullary main_cst_10 (constant S_ .f32 0x00000000#32),
    binary main_v54 main_cst_10 main_v55 ((fun x v => Host.reduceAdd x v reducesTo_S1024_S_d0 h_S_) : Arr F S1024 → Arr F S_ → Arr F S_),
    unary main_v55 main_v56 (Host.negf : Arr F S_ → Arr F S_),
    unary main_v56 main_v57 (Host.exp : Arr F S_ → Arr F S_) ]

/-- The decoder on the quantised rows. -/
abbrev opsDec : List (HloOp τ sig (Elt F)) :=
  [ binary main_v47 main_arg10 main_v58 ((fun l r => Host.dotGeneral dot_S8192x256_S256x512_S8192x512_1_0_0_1_n_n none l r) : Arr F S8192x256 → Arr F S256x512 → Arr F S8192x512),
    unary main_arg11 main_v59 (broadcastInDim S1x512 ![1] bcast_S512_S1x512_1 : Arr F S512 → Arr F S1x512),
    unary main_v59 main_v60 (broadcastInDim S8192x512 ![0, 1] bcast_S1x512_S8192x512_0_1 : Arr F S1x512 → Arr F S8192x512),
    binary main_v58 main_v60 main_v61 (addf : Arr F S8192x512 → Arr F S8192x512 → Arr F S8192x512),
    TRef.nullary (TRef.of (T := ⟨S_, .f32⟩) main_call5_cst) (constant S_ .f32 0x00000000#32),
    TRef.unary (TRef.of (T := ⟨S_, .f32⟩) main_call5_cst) (TRef.of (T := ⟨S8192x512, .f32⟩) main_call5_v0) (broadcastInDim S8192x512 ![] bcast_S_S8192x512),
    TRef.binary (TRef.of (T := ⟨S8192x512, .f32⟩) main_v61) (TRef.of (T := ⟨S8192x512, .f32⟩) main_call5_v0) (TRef.of (T := ⟨S8192x512, .f32⟩) main_v62) maximumf,
    binary main_v62 main_arg12 main_v63 ((fun l r => Host.dotGeneral dot_S8192x512_S512x1024_S8192x1024_1_0_0_1_n_n none l r) : Arr F S8192x512 → Arr F S512x1024 → Arr F S8192x1024),
    unary main_arg13 main_v64 (broadcastInDim S1x1024 ![1] bcast_S1024_S1x1024_1 : Arr F S1024 → Arr F S1x1024),
    unary main_v64 main_v65 (broadcastInDim S8192x1024 ![0, 1] bcast_S1x1024_S8192x1024_0_1 : Arr F S1x1024 → Arr F S8192x1024),
    binary main_v63 main_v65 main_v66 (addf : Arr F S8192x1024 → Arr F S8192x1024 → Arr F S8192x1024),
    TRef.nullary (TRef.of (T := ⟨S_, .f32⟩) main_call6_cst) (constant S_ .f32 0x00000000#32),
    TRef.unary (TRef.of (T := ⟨S_, .f32⟩) main_call6_cst) (TRef.of (T := ⟨S8192x1024, .f32⟩) main_call6_v0) (broadcastInDim S8192x1024 ![] bcast_S_S8192x1024),
    TRef.binary (TRef.of (T := ⟨S8192x1024, .f32⟩) main_v66) (TRef.of (T := ⟨S8192x1024, .f32⟩) main_call6_v0) (TRef.of (T := ⟨S8192x1024, .f32⟩) main_v67) maximumf,
    binary main_v67 main_arg14 main_v68 ((fun l r => Host.dotGeneral dot_S8192x1024_S1024x2048_S8192x2048_1_0_0_1_n_n none l r) : Arr F S8192x1024 → Arr F S1024x2048 → Arr F S8192x2048),
    unary main_arg15 main_v69 (broadcastInDim S1x2048 ![1] bcast_S2048_S1x2048_1 : Arr F S2048 → Arr F S1x2048),
    unary main_v69 main_v70 (broadcastInDim S8192x2048 ![0, 1] bcast_S1x2048_S8192x2048_0_1 : Arr F S1x2048 → Arr F S8192x2048),
    binary main_v68 main_v70 main_v71 (addf : Arr F S8192x2048 → Arr F S8192x2048 → Arr F S8192x2048),
    TRef.nullary (TRef.of (T := ⟨S_, .f32⟩) main_call7_cst) (constant S_ .f32 0x00000000#32),
    TRef.unary (TRef.of (T := ⟨S_, .f32⟩) main_call7_cst) (TRef.of (T := ⟨S8192x2048, .f32⟩) main_call7_v0) (broadcastInDim S8192x2048 ![] bcast_S_S8192x2048),
    TRef.binary (TRef.of (T := ⟨S8192x2048, .f32⟩) main_v71) (TRef.of (T := ⟨S8192x2048, .f32⟩) main_call7_v0) (TRef.of (T := ⟨S8192x2048, .f32⟩) main_v72) maximumf,
    binary main_v72 main_arg16 main_v73 ((fun l r => Host.dotGeneral dot_S8192x2048_S2048x2048_S8192x2048_1_0_0_1_n_n none l r) : Arr F S8192x2048 → Arr F S2048x2048 → Arr F S8192x2048),
    unary main_arg17 main_v74 (broadcastInDim S1x2048 ![1] bcast_S2048_S1x2048_1 : Arr F S2048 → Arr F S1x2048),
    unary main_v74 main_v75 (broadcastInDim S8192x2048 ![0, 1] bcast_S1x2048_S8192x2048_0_1 : Arr F S1x2048 → Arr F S8192x2048),
    binary main_v73 main_v75 main_v76 (addf : Arr F S8192x2048 → Arr F S8192x2048 → Arr F S8192x2048) ]

set_option maxHeartbeats 4000000 in
/-- @main runs the four stages in order. -/
theorem main_eq (c : Dev nD) : main (F := F) c = seq (opsEnc ++ opsCode ++ opsLoss ++ opsDec) := rfl

theorem scopedRefs_eq : (Finset.univ.filter fun b : Ref sig .tc => b.isScoped) = ∅ := by decide
theorem scopedSems_eq : (Finset.univ.filter fun sm : SemLoc sig => sm.isScoped .tc) = ∅ := by decide

/-- What `opsEnc` writes. -/
abbrev opsEnc_W : List (Ref sig .tc) :=
  [main_v0, main_v1, main_v2, main_v3, main_call0_cst, main_call0_v0, main_v4, main_v5, main_v6, main_v7, main_v8,
   main_call1_cst, main_call1_v0, main_v9, main_v10, main_v11, main_v12, main_v13, main_call2_cst, main_call2_v0,
   main_v14, main_v15, main_v16, main_v17, main_v18]

theorem opsEnc_keeps (V : Valuation τ sig (Elt F)) {r : Ref sig .tc} (hr : r ∉ opsEnc_W) :
    after opsEnc V (Proc.devRef .tc r) = V (Proc.devRef .tc r) :=
  after_of_writes_sub (W := opsEnc_W) opsEnc V (forall_writes_sub_of_map rfl) hr

theorem opsEnc_within : (opsEnc : List (HloOp τ sig (Elt F))).Forall fun op => op.bufs ⊆ tcRefs τ sig := by
  simp only [opsEnc, List.forall_cons, List.Forall, nullary_bufs_sub, unary_bufs_sub, binary_bufs_sub, quaternary_bufs_sub, TRef.nullary, TRef.unary, TRef.binary, TRef.quaternary, and_self]

/-- What `opsCode` writes. -/
abbrev opsCode_W : List (Ref sig .tc) :=
  [main_v19, main_cst, main_v20, main_v21, main_v22, main_cst_0, main_v23, main_v24, main_v25, main_v26, main_v27,
   main_cst_1, main_v28, main_v29, main_v30, main_v31, main_v32, main_call3_v0, main_call3_cst, main_call3_c,
   main_call3_v1_0, main_v33, main_call4_v0, main_call4_v1, main_call4_v2, main_call4_v3, main_call4_v4, main_v34]

theorem opsCode_keeps (V : Valuation τ sig (Elt F)) {r : Ref sig .tc} (hr : r ∉ opsCode_W) :
    after opsCode V (Proc.devRef .tc r) = V (Proc.devRef .tc r) :=
  after_of_writes_sub (W := opsCode_W) opsCode V (forall_writes_sub_of_map rfl) hr

theorem opsCode_within : (opsCode : List (HloOp τ sig (Elt F))).Forall fun op => op.bufs ⊆ tcRefs τ sig := by
  simp only [opsCode, List.forall_cons, List.Forall, nullary_bufs_sub, unary_bufs_sub, binary_bufs_sub, quaternary_bufs_sub, TRef.nullary, TRef.unary, TRef.binary, TRef.quaternary, and_self]

/-- What `opsLoss` writes. -/
abbrev opsLoss_W : List (Ref sig .tc) :=
  [main_v35, main_v36, main_v37, main_cst_2, main_v38, main_cst_3, main_v39, main_v40, main_v41, main_cst_4,
   main_v42, main_cst_5, main_v43, main_cst_6, main_v44, main_v45, main_v46, main_v47, main_cst_7, main_v48,
   main_cst_8, main_v49, main_v50, main_cst_9, main_v51, main_v52, main_v53, main_v54, main_cst_10, main_v55,
   main_v56, main_v57]

theorem opsLoss_keeps (V : Valuation τ sig (Elt F)) {r : Ref sig .tc} (hr : r ∉ opsLoss_W) :
    after opsLoss V (Proc.devRef .tc r) = V (Proc.devRef .tc r) :=
  after_of_writes_sub (W := opsLoss_W) opsLoss V (forall_writes_sub_of_map rfl) hr

theorem opsLoss_within : (opsLoss : List (HloOp τ sig (Elt F))).Forall fun op => op.bufs ⊆ tcRefs τ sig := by
  simp only [opsLoss, List.forall_cons, List.Forall, nullary_bufs_sub, unary_bufs_sub, binary_bufs_sub, quaternary_bufs_sub, TRef.nullary, TRef.unary, TRef.binary, TRef.quaternary, and_self]

/-- What `opsDec` writes. -/
abbrev opsDec_W : List (Ref sig .tc) :=
  [main_v58, main_v59, main_v60, main_v61, main_call5_cst, main_call5_v0, main_v62, main_v63, main_v64, main_v65,
   main_v66, main_call6_cst, main_call6_v0, main_v67, main_v68, main_v69, main_v70, main_v71, main_call7_cst,
   main_call7_v0, main_v72, main_v73, main_v74, main_v75, main_v76]

theorem opsDec_keeps (V : Valuation τ sig (Elt F)) {r : Ref sig .tc} (hr : r ∉ opsDec_W) :
    after opsDec V (Proc.devRef .tc r) = V (Proc.devRef .tc r) :=
  after_of_writes_sub (W := opsDec_W) opsDec V (forall_writes_sub_of_map rfl) hr

theorem opsDec_within : (opsDec : List (HloOp τ sig (Elt F))).Forall fun op => op.bufs ⊆ tcRefs τ sig := by
  simp only [opsDec, List.forall_cons, List.Forall, nullary_bufs_sub, unary_bufs_sub, binary_bufs_sub, quaternary_bufs_sub, TRef.nullary, TRef.unary, TRef.binary, TRef.quaternary, and_self]

end Cert.VQRef

end
-- ==== Proof.RefValue.lean ====
/- What the reference leaves: each result as the stage functions of the arguments, the arguments as they were, and with
   that its frame claim. -/
module

public import proofs.«01_k».proof.Proof.RefRun

@[expose] public section

set_option maxRecDepth 16384

noncomputable section

namespace Cert.VQRef

open Cert.ReferenceIdeal Cert.ReferenceIdeal.Gen
open Idealize.ShloMosaic Idealize.ShloMosaic.TcCoe Idealize.ShloMosaic.StableHlo
open Idealize.SL.Sem

variable {F : FTy → Type} [FloatOps F]

/-! ## The stages, from any contents -/

section Stages
variable (V : Valuation τ sig (Elt F))

set_option maxHeartbeats 4000000 in
theorem enc_rows : after opsEnc V (Proc.devRef .tc main_v18)
    = encode (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  simp only [opsEnc, TRef.binary, TRef.nullary, TRef.unary, TRef.toBuf, TRef.ofBuf, cast_eq]
  after_results_simp
  rfl

set_option maxHeartbeats 4000000 in
theorem code_rows : after opsCode V (Proc.devRef .tc main_v34)
    = encodings (V (Proc.devRef .tc main_v18)) (V (Proc.devRef .tc main_arg9)) := by
  simp only [opsCode, TRef.binary, TRef.nullary, TRef.unary, TRef.quaternary, TRef.toBuf, TRef.ofBuf, cast_eq]
  after_results_simp
  rfl

set_option maxHeartbeats 4000000 in
theorem loss_val : after opsLoss V (Proc.devRef .tc main_v45)
    = loss (picked (V (Proc.devRef .tc main_v34)) (V (Proc.devRef .tc main_arg9))) (V (Proc.devRef .tc main_v18)) := by
  simp only [opsLoss]
  after_results_simp
  rfl

set_option maxHeartbeats 4000000 in
theorem quant_rows : after opsLoss V (Proc.devRef .tc main_v47)
    = quantized (picked (V (Proc.devRef .tc main_v34)) (V (Proc.devRef .tc main_arg9))) (V (Proc.devRef .tc main_v18)) := by
  simp only [opsLoss]
  after_results_simp
  rfl

set_option maxHeartbeats 4000000 in
theorem perp_val : after opsLoss V (Proc.devRef .tc main_v57) = perplexity (V (Proc.devRef .tc main_v34)) := by
  simp only [opsLoss]
  after_results_simp
  rfl

set_option maxHeartbeats 4000000 in
theorem dec_rows : after opsDec V (Proc.devRef .tc main_v76)
    = decode (V (Proc.devRef .tc main_v47)) (V (Proc.devRef .tc main_arg10)) (V (Proc.devRef .tc main_arg11))
        (V (Proc.devRef .tc main_arg12)) (V (Proc.devRef .tc main_arg13)) (V (Proc.devRef .tc main_arg14))
        (V (Proc.devRef .tc main_arg15)) (V (Proc.devRef .tc main_arg16)) (V (Proc.devRef .tc main_arg17)) := by
  simp only [opsDec, TRef.binary, TRef.nullary, TRef.unary, TRef.toBuf, TRef.ofBuf, cast_eq]
  after_results_simp
  rfl

/-- A line run after another. -/
theorem after_two (l k : List (HloOp τ sig (Elt F))) (U : Valuation τ sig (Elt F)) : after (l ++ k) U = after k (after l U) := by
  induction l generalizing U with
  | nil => rfl
  | cons op l ih => exact ih _

/-- The four stages one after another. -/
theorem after_stages (r : Ref sig .tc) : after (opsEnc ++ opsCode ++ opsLoss ++ opsDec) V (Proc.devRef .tc r)
    = after opsDec (after opsLoss (after opsCode (after opsEnc V))) (Proc.devRef .tc r) := by
  rw [after_two, after_two, after_two]

/-- What no stage writes is left as it was. -/
theorem kept {r : Ref sig .tc} (h1 : r ∉ opsEnc_W) (h2 : r ∉ opsCode_W) (h3 : r ∉ opsLoss_W) (h4 : r ∉ opsDec_W) :
    after (opsEnc ++ opsCode ++ opsLoss ++ opsDec) V (Proc.devRef .tc r) = V (Proc.devRef .tc r) := by
  rw [after_stages, opsDec_keeps _ h4, opsLoss_keeps _ h3, opsCode_keeps _ h2, opsEnc_keeps _ h1]

end Stages

/-! ## The results, of the launch contents -/

section Results
variable (m : (ℓ : Loc nD τ sig) → Buf (Elt F) ℓ) (c : Dev nD)

/-- The encoder's rows. -/
def zR : Arr F S8192x256 :=
  encode (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The codes. -/
def eR : Arr F S8192x1024 := encodings (zR m c) (m ((c.tc : Thread nD τ).loc main_arg9))

/-- The picked rows. -/
def pR : Arr F S8192x256 := picked (eR m c) (m ((c.tc : Thread nD τ).loc main_arg9))

/-- The quantised rows. -/
def qR : Arr F S8192x256 := quantized (pR m c) (zR m c)

/-- The decoder's rows. -/
def dR : Arr F S8192x2048 :=
  decode (qR m c) (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15))
    (m ((c.tc : Thread nD τ).loc main_arg16)) (m ((c.tc : Thread nD τ).loc main_arg17))

/-- The contents before the first operation. -/
abbrev V0 : Valuation τ sig (Elt F) := launchContents m c

theorem at_v18 : after opsCode (after opsEnc (V0 m c)) (Proc.devRef .tc main_v18) = zR m c := by
  rw [opsCode_keeps _ (by decide), enc_rows]; rfl

theorem at_v34 : after opsCode (after opsEnc (V0 m c)) (Proc.devRef .tc main_v34) = eR m c := by
  rw [code_rows, enc_rows, opsEnc_keeps _ (r := main_arg9) (by decide)]; rfl

theorem at_arg9 : after opsCode (after opsEnc (V0 m c)) (Proc.devRef .tc main_arg9) = m ((c.tc : Thread nD τ).loc main_arg9) := by
  rw [opsCode_keeps _ (by decide), opsEnc_keeps _ (by decide)]

theorem at_v47 : after opsLoss (after opsCode (after opsEnc (V0 m c))) (Proc.devRef .tc main_v47) = qR m c := by
  rw [quant_rows, at_v34, at_v18, at_arg9]; rfl

theorem at_arg {r : Ref sig .tc} (h1 : r ∉ opsEnc_W) (h2 : r ∉ opsCode_W) (h3 : r ∉ opsLoss_W) :
    after opsLoss (after opsCode (after opsEnc (V0 m c))) (Proc.devRef .tc r) = m ((c.tc : Thread nD τ).loc r) := by
  rw [opsLoss_keeps _ h3, opsCode_keeps _ h2, opsEnc_keeps _ h1]

theorem res0 : after (opsEnc ++ opsCode ++ opsLoss ++ opsDec) (V0 m c) (Proc.devRef .tc main_v76) = dR m c := by
  rw [after_stages, dec_rows, at_v47, at_arg m c (r := main_arg10) (by decide) (by decide) (by decide),
    at_arg m c (r := main_arg11) (by decide) (by decide) (by decide), at_arg m c (r := main_arg12) (by decide) (by decide) (by decide),
    at_arg m c (r := main_arg13) (by decide) (by decide) (by decide), at_arg m c (r := main_arg14) (by decide) (by decide) (by decide),
    at_arg m c (r := main_arg15) (by decide) (by decide) (by decide), at_arg m c (r := main_arg16) (by decide) (by decide) (by decide),
    at_arg m c (r := main_arg17) (by decide) (by decide) (by decide)]
  rfl

theorem res1 : after (opsEnc ++ opsCode ++ opsLoss ++ opsDec) (V0 m c) (Proc.devRef .tc main_v45) = loss (pR m c) (zR m c) := by
  rw [after_stages, opsDec_keeps _ (by decide), loss_val, at_v34, at_v18, at_arg9]; rfl

theorem res2 : after (opsEnc ++ opsCode ++ opsLoss ++ opsDec) (V0 m c) (Proc.devRef .tc main_v47) = qR m c := by
  rw [after_stages, opsDec_keeps _ (by decide), at_v47]

theorem res3 : after (opsEnc ++ opsCode ++ opsLoss ++ opsDec) (V0 m c) (Proc.devRef .tc main_v57) = perplexity (eR m c) := by
  rw [after_stages, opsDec_keeps _ (by decide), perp_val, at_v34]

theorem res4 : after (opsEnc ++ opsCode ++ opsLoss ++ opsDec) (V0 m c) (Proc.devRef .tc main_v34) = eR m c := by
  rw [after_stages, opsDec_keeps _ (by decide), opsLoss_keeps _ (by decide), at_v34]

end Results

/-! ## The run -/

/-- Every execution ends with the results at the stage functions of the arguments, the arguments as they were and every
    counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, ∀ b : Ref sig .tc, r.2.mem ((c.tc : Thread nD τ).loc b)
        = after (opsEnc ++ opsCode ++ opsLoss ++ opsDec) (V0 m c) (Proc.devRef .tc b))
      ∧ r.2.sem = fun _ => 0 :=
  (θ_run defs _ _).mono (fun r h => ⟨h, sem_eq_zero_of_no_sems rfl r.2⟩)
    (run_seq scopedRefs_eq scopedSems_eq defs main (fun _ => opsEnc ++ opsCode ++ opsLoss ++ opsDec) main_eq
      (fun _ => List.forall_append.mpr ⟨List.forall_append.mpr ⟨List.forall_append.mpr ⟨opsEnc_within, opsCode_within⟩, opsLoss_within⟩, opsDec_within⟩) m ρ)

/-- An argument is written by no stage. -/
theorem arg_kept (m : (ℓ : Loc nD τ sig) → Buf (Elt F) ℓ) (c : Dev nD) {r : Ref sig .tc}
    (h : r ∈ [main_arg0, main_arg1, main_arg2, main_arg3, main_arg4, main_arg5, main_arg6, main_arg7, main_arg8, main_arg9,
      main_arg10, main_arg11, main_arg12, main_arg13, main_arg14, main_arg15, main_arg16, main_arg17]) :
    after (opsEnc ++ opsCode ++ opsLoss ++ opsDec) (V0 m c) (Proc.devRef .tc r) = m ((c.tc : Thread nD τ).loc r) := by
  have hW : ∀ r' ∈ [main_arg0, main_arg1, main_arg2, main_arg3, main_arg4, main_arg5, main_arg6, main_arg7, main_arg8, main_arg9,
      main_arg10, main_arg11, main_arg12, main_arg13, main_arg14, main_arg15, main_arg16, main_arg17],
      r' ∉ opsEnc_W ∧ r' ∉ opsCode_W ∧ r' ∉ opsLoss_W ∧ r' ∉ opsDec_W := by decide
  exact kept _ (hW r h).1 (hW r h).2.1 (hW r h).2.2.1 (hW r h).2.2.2

/-- The arguments end as launched and every counter at zero. -/
theorem quiescent_reference : Cert.quiescent_ReferenceIdeal (hReferenceIdeal := Cert.ReferenceIdeal.Gen.facts) := by
  intro m ρ _
  refine (θ_run _ _ _).mono (fun r h => ⟨fun c => ?_, h.2⟩) (run m ρ)
  have k {r' : Ref sig .tc} (hr) := (h.1 c r').trans (arg_kept m c (r := r') hr)
  exact ⟨k (by decide), k (by decide), k (by decide), k (by decide), k (by decide), k (by decide), k (by decide), k (by decide),
    k (by decide), k (by decide), k (by decide), k (by decide), k (by decide), k (by decide), k (by decide), k (by decide),
    k (by decide), k (by decide)⟩

end Cert.VQRef

end
-- ==== Proof.Argmin.lean ====
/- The position of a row's least distance, as the reference's pair reduction finds it and as the kernel's
   two minima find it, over the extended reals. -/
module

public import proofs.«01_k».proof.Proof.RefRun
public import Idealize.ShloMosaic.Lib.Pointwise

@[expose] public section

set_option maxRecDepth 16384

noncomputable section

namespace Cert.VQRow

open Idealize.ShloMosaic Idealize.ShloMosaic.TcCoe

/-! ## The pair reduction -/

/-- One pair comes no later than another: a lesser value, or an equal one at no greater position. -/
def NoLater (a b : EReal × BitVec 32) : Prop := a.1 < b.1 ∨ a.1 = b.1 ∧ a.2.toInt ≤ b.2.toInt

theorem NoLater.refl (a : EReal × BitVec 32) : NoLater a a := Or.inr ⟨rfl, le_refl _⟩

theorem NoLater.trans {a b c : EReal × BitVec 32} (h : NoLater a b) (k : NoLater b c) : NoLater a c := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- The reducer keeps whichever of its pairs comes no later than the other. -/
theorem reducer_cases (a b : EReal × BitVec 32) :
    (ReferenceIdeal.reducer_argmin_f32_i32 (F := Ideal) a b = a ∧ NoLater a b)
      ∨ (ReferenceIdeal.reducer_argmin_f32_i32 (F := Ideal) a b = b ∧ NoLater b a) := by
  obtain ⟨x, i⟩ := a
  obtain ⟨y, j⟩ := b
  rcases lt_trichotomy x y with h | h | h
  · refine Or.inl ⟨?_, Or.inl h⟩
    simp [ReferenceIdeal.reducer_argmin_f32_i32, Ideal.cmpf_def, Ideal.cmp, IntOp.ori, IntOp.andi, IntOp.cmpi,
      Scalar.select, h, h.ne]
  · subst h
    by_cases hij : i.toInt < j.toInt
    · refine Or.inl ⟨?_, Or.inr ⟨rfl, hij.le⟩⟩
      simp [ReferenceIdeal.reducer_argmin_f32_i32, Ideal.cmpf_def, Ideal.cmp, IntOp.ori, IntOp.andi, IntOp.cmpi,
        Scalar.select, BitVec.slt, hij]
    · refine Or.inr ⟨?_, Or.inr ⟨rfl, not_lt.1 hij⟩⟩
      simp [ReferenceIdeal.reducer_argmin_f32_i32, Ideal.cmpf_def, Ideal.cmp, IntOp.ori, IntOp.andi, IntOp.cmpi,
        Scalar.select, BitVec.slt, hij]
  · refine Or.inr ⟨?_, Or.inl h⟩
    simp [ReferenceIdeal.reducer_argmin_f32_i32, Ideal.cmpf_def, Ideal.cmp, IntOp.ori, IntOp.andi, IntOp.cmpi,
      Scalar.select, h.not_gt, h.ne']

/-- Folding the reducer yields one of the pairs, and none comes before it. -/
theorem foldl_reducer (l : List (EReal × BitVec 32)) : ∀ p : EReal × BitVec 32,
    (l.foldl (ReferenceIdeal.reducer_argmin_f32_i32 (F := Ideal)) p = p
      ∨ l.foldl (ReferenceIdeal.reducer_argmin_f32_i32 (F := Ideal)) p ∈ l)
    ∧ NoLater (l.foldl (ReferenceIdeal.reducer_argmin_f32_i32 (F := Ideal)) p) p
    ∧ ∀ q ∈ l, NoLater (l.foldl (ReferenceIdeal.reducer_argmin_f32_i32 (F := Ideal)) p) q := by
  induction l with
  | nil => exact fun p => ⟨Or.inl rfl, NoLater.refl p, fun q hq => absurd hq (List.not_mem_nil)⟩
  | cons a l ih =>
    intro p
    rw [List.foldl_cons]
    obtain ⟨h1, h2, h3⟩ := ih (ReferenceIdeal.reducer_argmin_f32_i32 (F := Ideal) p a)
    rcases reducer_cases p a with ⟨e, ha⟩ | ⟨e, ha⟩
    · rw [e] at h1 h2 h3 ⊢
      refine ⟨h1.imp id (List.mem_cons_of_mem _), h2, fun q hq => ?_⟩
      rcases List.mem_cons.1 hq with rfl | hq
      · exact h2.trans ha
      · exact h3 q hq
    · rw [e] at h1 h2 h3 ⊢
      refine ⟨Or.inr (h1.elim (fun h => by rw [h]; exact List.mem_cons_self) (List.mem_cons_of_mem _)),
        h2.trans ha, fun q hq => ?_⟩
      rcases List.mem_cons.1 hq with rfl | hq
      · exact h2
      · exact h3 q hq

/-! ## The first least position -/

/-- `k` is the first position of `d`'s least value. -/
def FirstLeast (d : Fin 1024 → EReal) (k : Fin 1024) : Prop := (∀ j, d k ≤ d j) ∧ ∀ j, d j = d k → k ≤ j

theorem ofBits_inf : Ideal.ofBits .f32 0x7F800000#32 = (⊤ : EReal) := by
  simp [Ideal.ofBits, Ideal.ieee]

theorem toInt_ofNat (k : Fin 1024) : (BitVec.ofNat 32 (k : Nat)).toInt = (k : Int) := by
  have := k.isLt
  rw [BitVec.toInt_eq_toNat_cond, BitVec.toNat_ofNat, Nat.mod_eq_of_lt (by omega)]
  rw [if_pos (by omega)]

/-- The pairs the reduction folds at row `R` are the row's values with their positions. -/
theorem mem_fiber (D : VQRef.Arr Ideal ReferenceIdeal.S8192x1024) (R : Fin 8192) (p : EReal × BitVec 32) :
    p ∈ Host.argReduceFiber D (iotaInDim ReferenceIdeal.S8192x1024 32 1)
        ReferenceIdeal.Gen.reducesTo_S8192x1024_S8192_d1 (ix1 R)
      ↔ ∃ k : Fin 1024, p = (D (ix2 R k), BitVec.ofNat 32 (k : Nat)) := by
  have hd : ∀ i : ReferenceIdeal.S8192x1024.Idx,
      ReferenceIdeal.Gen.reducesTo_S8192x1024_S8192_d1.drop i = ix1 R ↔ (i 0 : Nat) = R := fun i => by
    simp [funext_iff, Fin.ext_iff, Fin.forall_fin_one,
      ReferenceIdeal.Gen.reducesTo_S8192x1024_S8192_d1.drop_apply_val_of_eq i 0 0]
  unfold Host.argReduceFiber
  rw [List.mem_map]
  constructor
  · rintro ⟨n, hn, rfl⟩
    have h0 := (hd _).1 (of_decide_eq_true (List.mem_filter.1 hn).2)
    generalize ReferenceIdeal.S8192x1024.rowMajor.symm n = i at h0 ⊢
    refine ⟨i 1, ?_⟩
    have hi : i = ix2 R (i 1) := by
      funext a
      match a with
      | 0 => exact Fin.ext h0
      | 1 => rfl
    exact Prod.ext (congrArg D hi) rfl
  · rintro ⟨k, rfl⟩
    refine ⟨ReferenceIdeal.S8192x1024.rowMajor (ix2 R k), List.mem_filter.2 ⟨List.mem_finRange _, ?_⟩, ?_⟩
    · rw [Equiv.symm_apply_apply]
      exact decide_eq_true ((hd _).2 rfl)
    · rw [Equiv.symm_apply_apply]
      rfl

/-- Folding the reducer over a row's values with their positions yields the first least position. -/
theorem foldl_spec (d : Fin 1024 → EReal) (l : List (EReal × BitVec 32))
    (hl : ∀ p, p ∈ l ↔ ∃ k : Fin 1024, p = (d k, BitVec.ofNat 32 (k : Nat))) :
    ∃ k : Fin 1024, l.foldl (ReferenceIdeal.reducer_argmin_f32_i32 (F := Ideal)) (⊤, 0#32) = (d k, BitVec.ofNat 32 (k : Nat))
      ∧ FirstLeast d k := by
  obtain ⟨h1, h2, h3⟩ := foldl_reducer l (⊤, 0#32)
  generalize l.foldl (ReferenceIdeal.reducer_argmin_f32_i32 (F := Ideal)) (⊤, 0#32) = r at h1 h2 h3 ⊢
  have h4 : ∀ k : Fin 1024, NoLater r (d k, BitVec.ofNat 32 (k : Nat)) := fun k => h3 _ ((hl _).2 ⟨k, rfl⟩)
  have h5 : ∃ k : Fin 1024, r = (d k, BitVec.ofNat 32 (k : Nat)) := by
    rcases h1 with h1 | h1
    · refine ⟨0, ?_⟩
      have h0 := h4 0
      rw [h1] at h0 ⊢
      have hle : (⊤ : EReal) ≤ d 0 := h0.elim le_of_lt (fun h => h.1.le)
      exact Prod.ext (top_le_iff.1 hle).symm rfl
    · exact (hl r).1 h1
  obtain ⟨k, rfl⟩ := h5
  refine ⟨k, rfl, fun j => (h4 j).elim le_of_lt (fun h => h.1.le), fun j hj => ?_⟩
  rcases h4 j with h | ⟨_, h⟩
  · exact absurd hj.symm (ne_of_lt h)
  · rw [toInt_ofNat, toInt_ofNat] at h
    exact Fin.le_def.2 (by exact_mod_cast h)

/-- The reduction at any values is the fold over its pairs. -/
theorem argReduce_pair {s t u : Shape} {axes : List (Fin s.rank)}
    (f : EReal × BitVec 32 → EReal × BitVec 32 → EReal × BitVec 32) (x : FVec Ideal s .f32) (y : s.Idx → BitVec 32)
    (ix : u.Idx → Ideal .f32) (iy : u.Idx → BitVec 32) (h : s.ReducesTo axes t) (hu : 0 < u.numel) (j : t.Idx)
    (hx : ∀ i, ix i = (⊤ : EReal)) (hy : ∀ i, iy i = 0#32) :
    Host.argReduce (F := Ideal) (φ := .f32) f x y ix iy h hu j
      = (Host.argReduceFiber x y h j).foldl f ((⊤ : EReal), 0#32) := by
  rw [Ideal.argReduce_eq_reduce2, Host.reduce2_eq_foldl_fiber, hx, hy]

/-- The reduction's pair at row `R`. -/
theorem argReduce_spec (D : VQRef.Arr Ideal ReferenceIdeal.S8192x1024) (R : Fin 8192) :
    ∃ k : Fin 1024, Host.argReduce (F := Ideal) (φ := .f32) ReferenceIdeal.reducer_argmin_f32_i32 D
        (iotaInDim ReferenceIdeal.S8192x1024 32 1) (VQRef.scal Ideal 0x7F800000#32) (constantI ReferenceIdeal.S_ 32 0#32)
        ReferenceIdeal.Gen.reducesTo_S8192x1024_S8192_d1 ReferenceIdeal.Gen.h_S_ (ix1 R)
        = (D (ix2 R k), BitVec.ofNat 32 (k : Nat))
      ∧ FirstLeast (fun j => D (ix2 R j)) k := by
  obtain ⟨k, hk, h⟩ := foldl_spec _ _ (mem_fiber D R)
  refine ⟨k, ?_, h⟩
  rw [argReduce_pair _ _ _ (VQRef.scal Ideal 0x7F800000#32) (constantI ReferenceIdeal.S_ 32 0#32) _ _ _
    (fun _ => ofBits_inf) (fun _ => rfl)]
  exact hk

theorem nearest_eq (D : VQRef.Arr Ideal ReferenceIdeal.S8192x1024) : VQRef.nearest (F := Ideal) D = fun j =>
    (Host.argReduce (F := Ideal) (φ := .f32) ReferenceIdeal.reducer_argmin_f32_i32 D
      (iotaInDim ReferenceIdeal.S8192x1024 32 1) (VQRef.scal Ideal 0x7F800000#32) (constantI ReferenceIdeal.S_ 32 0#32)
      ReferenceIdeal.Gen.reducesTo_S8192x1024_S8192_d1 ReferenceIdeal.Gen.h_S_ j).2 := rfl

theorem snd_of_pair {ι : Type} (f : ι → EReal × BitVec 32) (g : ι → BitVec 32) (hg : g = fun j => (f j).2) (j : ι)
    (a : EReal) (b : BitVec 32) (h : f j = (a, b)) : g j = b := by
  subst hg
  exact congrArg Prod.snd h

/-- The reference's position at row `R` is the first of the row's least distance. -/
theorem nearest_spec (D : VQRef.Arr Ideal ReferenceIdeal.S8192x1024) (R : Fin 8192) :
    ∃ k : Fin 1024, VQRef.nearest (F := Ideal) D (ix1 R) = BitVec.ofNat 32 (k : Nat)
      ∧ FirstLeast (fun j => D (ix2 R j)) k := by
  obtain ⟨k, hk, h⟩ := argReduce_spec D R
  exact ⟨k, snd_of_pair _ _ (nearest_eq D) (ix1 R) _ _ hk, h⟩

/-! ## The kernel's two minima -/

theorem fold_min_eq {d : Fin 1024 → EReal} {k : Fin 1024} (h : FirstLeast d k) :
    Finset.fold min (Ideal.ofBits .f32 0x7F800000#32) (fun j => d j) Finset.univ = d k := by
  rw [ofBits_inf]
  refine le_antisymm ((Finset.fold_min_le _).2 (Or.inr ⟨k, Finset.mem_univ k, le_refl _⟩))
    ((Finset.le_fold_min _).2 ⟨le_top, fun j _ => h.1 j⟩)

theorem minsi_toInt (x y : BitVec 32) : (IntOp.minsi x y).toInt = min x.toInt y.toInt := by
  unfold IntOp.minsi
  simp only [BitVec.slt_eq_decide, decide_eq_true_eq]
  split_ifs with h
  · exact (min_eq_left h.le).symm
  · exact (min_eq_right (not_lt.1 h)).symm

/-- The least of the positions holding the least value is the first of them. -/
theorem fold_minsi_eq {d : Fin 1024 → EReal} {k : Fin 1024} (h : FirstLeast d k) :
    Finset.fold IntOp.minsi 2147483647#32
      (fun j : Fin 1024 => if d j = d k then BitVec.ofNat 32 (j : Nat) else 1024#32) Finset.univ
      = BitVec.ofNat 32 (k : Nat) := by
  apply BitVec.eq_of_toInt_eq
  rw [← Finset.fold_hom minsi_toInt, toInt_ofNat]
  have hk := k.isLt
  refine le_antisymm ((Finset.fold_min_le _).2 (Or.inr ⟨k, Finset.mem_univ k, ?_⟩))
    ((Finset.le_fold_min _).2 ⟨?_, fun j _ => ?_⟩)
  · rw [if_pos rfl, toInt_ofNat]
  · show (k : Int) ≤ 2147483647
    omega
  · split_ifs with hj
    · rw [toInt_ofNat]
      exact_mod_cast Fin.le_def.1 (h.2 j hj)
    · show (k : Int) ≤ 1024
      omega

/-- The code's digit is one number in the kernel's spelling and the reference's. -/
theorem digit_eq (a b : BitVec 32) :
    FloatOps.sitofp (F := Ideal) .f32 (BitVec.setWidth 32 (IntOp.cmpi .eq a b))
      = FloatOps.uitofp (F := Ideal) .f32 (IntOp.cmpi .eq b a) := by
  have hb : ∀ c : Bool, FloatOps.sitofp (F := Ideal) .f32 (BitVec.setWidth 32 (BitVec.ofBool c))
      = FloatOps.uitofp (F := Ideal) .f32 (BitVec.ofBool c) := fun c => by
    cases c <;> simp [FloatOps.sitofp, FloatOps.uitofp]
  show FloatOps.sitofp (F := Ideal) .f32 (BitVec.setWidth 32 (BitVec.ofBool (a == b)))
    = FloatOps.uitofp (F := Ideal) .f32 (BitVec.ofBool (b == a))
  rw [hb, Bool.beq_comm]

end Cert.VQRow

end
-- ==== Proof.Rows.lean ====
/- The kernel's payloads and the reference's stages agree row by row over the extended reals. -/
module

public import proofs.«01_k».proof.Proof.Argmin
public import proofs.«01_k».proof.Proof.Gen.KernelIdeal.Skeleton
public import Idealize.ShloMosaic.Lib.Pointwise

@[expose] public section

set_option maxRecDepth 16384

noncomputable section

namespace Cert.VQRow

open Idealize.ShloMosaic Idealize.ShloMosaic.TcCoe
open Cert.KernelIdeal.Gen

/-! ## The constants -/

theorem ofBits_two : Ideal.ofBits .f32 0x40000000#32 = ((2 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_elems : Ideal.ofBits .f32 0x4A000000#32 = ((2097152 : ℝ) : EReal) := by
  simp [Ideal.ofBits, Ideal.ieee, -EReal.coe_mul]; norm_num

theorem ofBits_elem : Ideal.ofBits .f32 0x35000000#32 = ((1 / 2097152 : ℝ) : EReal) := by
  simp [Ideal.ofBits, Ideal.ieee, -EReal.coe_mul]; norm_num

theorem ofBits_rows : Ideal.ofBits .f32 0x46000000#32 = ((8192 : ℝ) : EReal) := by
  simp [Ideal.ofBits, Ideal.ieee, -EReal.coe_mul]; norm_num

theorem ofBits_row : Ideal.ofBits .f32 0x39000000#32 = ((1 / 8192 : ℝ) : EReal) := by
  simp [Ideal.ofBits, Ideal.ieee, -EReal.coe_mul]; norm_num

/-- Dividing by the number of elements is scaling by its inverse. -/
theorem div_elems (x : EReal) :
    Ideal.div x (Ideal.ofBits .f32 0x4A000000#32) = x * Ideal.ofBits .f32 0x35000000#32 := by
  rw [ofBits_elems, ofBits_elem, Ideal.div_coe (by norm_num)]

/-- Dividing by the number of rows is scaling by its inverse. -/
theorem div_rows (x : EReal) :
    Ideal.div x (Ideal.ofBits .f32 0x46000000#32) = x * Ideal.ofBits .f32 0x39000000#32 := by
  rw [ofBits_rows, ofBits_row, Ideal.div_coe (by norm_num)]

/-- Two times a sum of products is the sum of the products with their left factors doubled. -/
theorem two_mul_sum {ι : Type} (s : Finset ι) (f g : ι → EReal) :
    Ideal.ofBits .f32 0x40000000#32 * ∑ i ∈ s, f i * g i
      = ∑ i ∈ s, Ideal.ofBits .f32 0x40000000#32 * f i * g i := by
  rw [ofBits_two]
  have h0 : (0 : EReal) ≤ ((2 : ℝ) : EReal) := by exact_mod_cast (by norm_num : (0 : ℝ) ≤ 2)
  classical
  induction s using Finset.induction_on with
  | empty => simp
  | insert a s ha ih =>
    rw [Finset.sum_insert ha, Finset.sum_insert ha, EReal.left_distrib_of_nonneg_of_ne_top h0 (EReal.coe_ne_top _),
      ih, mul_assoc]

/-! ## The encoder -/

section Enc
variable (xb : Vec Ideal Cert.KernelIdeal.S512x2048 .f32) (x : VQRef.Arr Ideal Cert.ReferenceIdeal.S8192x2048)
  (W1 : VQRef.Arr Ideal Cert.ReferenceIdeal.S2048x1024) (b1 : VQRef.Arr Ideal Cert.ReferenceIdeal.S1024)
  (W2 : VQRef.Arr Ideal Cert.ReferenceIdeal.S1024x512) (b2 : VQRef.Arr Ideal Cert.ReferenceIdeal.S512)
  (W3 : VQRef.Arr Ideal Cert.ReferenceIdeal.S512x256) (b3 : VQRef.Arr Ideal Cert.ReferenceIdeal.S256)
  (W4 : VQRef.Arr Ideal Cert.ReferenceIdeal.S256x256) (b4 : VQRef.Arr Ideal Cert.ReferenceIdeal.S256)

/-- An encoded row of a block is the reference's. -/
theorem enc_row (r : Fin 512) (R : Fin 8192) (h : ∀ k : Fin 2048, xb (ix2 r k) = x (ix2 R k)) (l : Fin 256) :
    k0_pay7 (F := Ideal) xb W1 b1 W2 b2 W3 b3 W4 b4 (ix2 r l) = VQRef.encode x W1 b1 W2 b2 W3 b3 W4 b4 (ix2 R l) := by
  pointwise [k0_pay7, VQRef.encode, h]
end Enc

/-! ## The codes -/

section Code
variable (z : FVec Ideal Cert.KernelIdeal.S512x256 .f32) (Z : VQRef.Arr Ideal Cert.ReferenceIdeal.S8192x256)
  (E : VQRef.Arr Ideal Cert.ReferenceIdeal.S1024x256)

/-- The distance of a row to an entry, as the kernel computes it. -/
def kdist (z : FVec Ideal Cert.KernelIdeal.S512x256 .f32) (E : VQRef.Arr Ideal Cert.ReferenceIdeal.S1024x256)
    (r : Fin 512) (j : Fin 1024) : EReal :=
  ∑ y : Fin 256, z (ix2 r y) * z (ix2 r y) + ∑ y : Fin 256, E (ix2 j y) * E (ix2 j y)
    - Ideal.ofBits .f32 0x40000000#32 * ∑ y : Fin 256, z (ix2 r y) * E (ix2 j y)

theorem dists_row (r : Fin 512) (R : Fin 8192) (h : ∀ l : Fin 256, z (ix2 r l) = Z (ix2 R l)) (j : Fin 1024) :
    VQRef.dists Z E (ix2 R j) = kdist z E r j := by
  simp only [kdist, h, two_mul_sum]
  pointwise [VQRef.dists]

theorem code_form (r : Fin 512) (c : Fin 1024) (d : Fin 1024 → EReal) (hd : kdist z E r = d) :
    k0_pay8 z E (ix2 r c) = FloatOps.sitofp (F := Ideal) .f32 (BitVec.setWidth 32 (IntOp.cmpi .eq (BitVec.ofNat 32 (c : Nat))
      (Finset.fold IntOp.minsi 2147483647#32 (fun j : Fin 1024 =>
        if d j = Finset.fold min (Ideal.ofBits .f32 0x7F800000#32) (fun j => d j) Finset.univ
        then BitVec.ofNat 32 (j : Nat) else 1024#32) Finset.univ))) := by
  subst hd
  simp only [kdist]
  pointwise [k0_pay8]

theorem oneHot_row (p : VQRef.IArr Ideal Cert.ReferenceIdeal.S8192) (R : Fin 8192) (c : Fin 1024) :
    VQRef.oneHot (F := Ideal) p (ix2 R c) = FloatOps.uitofp (F := Ideal) .f32 (IntOp.cmpi .eq (p (ix1 R)) (BitVec.ofNat 32 (c : Nat))) := by
  pointwise [VQRef.oneHot]

/-- A row's code is the reference's. -/
theorem code_row (r : Fin 512) (R : Fin 8192) (h : ∀ l : Fin 256, z (ix2 r l) = Z (ix2 R l)) (c : Fin 1024) :
    k0_pay8 z E (ix2 r c) = VQRef.encodings Z E (ix2 R c) := by
  obtain ⟨k, hk, hf⟩ := nearest_spec (VQRef.dists Z E) R
  have hd : kdist z E r = fun j => VQRef.dists Z E (ix2 R j) := funext fun j => (dists_row z Z E r R h j).symm
  rw [code_form z E r c _ hd, fold_min_eq hf, fold_minsi_eq hf, digit_eq, VQRef.encodings, oneHot_row, hk]

/-- A row's entry is the reference's. -/
theorem picked_row (r : Fin 512) (R : Fin 8192) (h : ∀ l : Fin 256, z (ix2 r l) = Z (ix2 R l)) (l : Fin 256) :
    k0_pay9 z E (ix2 r l) = VQRef.picked (VQRef.encodings Z E) E (ix2 R l) := by
  pointwise [k0_pay9, VQRef.picked, code_row z Z E r R h]

/-- A row's quantised row is the reference's. -/
theorem quant_row (r : Fin 512) (R : Fin 8192) (h : ∀ l : Fin 256, z (ix2 r l) = Z (ix2 R l)) (l : Fin 256) :
    k0_pay10 z E (ix2 r l) = VQRef.quantized (VQRef.picked (VQRef.encodings Z E) E) Z (ix2 R l) := by
  pointwise [k0_pay10, VQRef.quantized, picked_row z Z E r R h, h]
end Code

/-! ## The decoder -/

section Dec
variable (qb : Vec Ideal Cert.KernelIdeal.S1024x256 .f32) (q : VQRef.Arr Ideal Cert.ReferenceIdeal.S8192x256)
  (W1 : VQRef.Arr Ideal Cert.ReferenceIdeal.S256x512) (b1 : VQRef.Arr Ideal Cert.ReferenceIdeal.S512)
  (W2 : VQRef.Arr Ideal Cert.ReferenceIdeal.S512x1024) (b2 : VQRef.Arr Ideal Cert.ReferenceIdeal.S1024)
  (W3 : VQRef.Arr Ideal Cert.ReferenceIdeal.S1024x2048) (b3 : VQRef.Arr Ideal Cert.ReferenceIdeal.S2048)
  (W4 : VQRef.Arr Ideal Cert.ReferenceIdeal.S2048x2048) (b4 : VQRef.Arr Ideal Cert.ReferenceIdeal.S2048)

/-- A decoded row of a block is the reference's. -/
theorem dec_row (r : Fin 1024) (R : Fin 8192) (h : ∀ k : Fin 256, qb (ix2 r k) = q (ix2 R k)) (l : Fin 2048) :
    k1_pay1 (F := Ideal) qb W1 b1 W2 b2 W3 b3 W4 b4 (ix2 r l) = VQRef.decode q W1 b1 W2 b2 W3 b3 W4 b4 (ix2 R l) := by
  pointwise [k1_pay1, VQRef.decode, h]
end Dec

end Cert.VQRow

end
-- ==== Proof.Arrays.lean ====
/- The arrays the two regions leave, over the extended reals: each is the reference's value of the region's inputs. -/
module

public import proofs.«01_k».proof.Proof.Rows
public import proofs.«01_k».proof.Proof.Run
public import proofs.«01_k».proof.Proof.Gen.KernelIdeal.Points
public import Idealize.ShloMosaic.Lib.Pipeline.ValueKit

@[expose] public section

set_option maxRecDepth 16384

noncomputable section

namespace Cert.VQ

open Cert.KernelIdeal Cert.KernelIdeal.Gen Cert.VQRow
open Idealize.ShloMosaic Idealize.ShloMosaic.TcCoe
open Idealize.ShloMosaic.Pipeline (Dat)

namespace R0

variable (V : Entry Ideal) (c : Dev nD)

/-! ## The blocks a point reads -/

theorem rows_idx : ∀ t : Fin cfg0.N, win0_0.index t = ![t.val, 0] := (by decide +kernel : ∀ t : Fin grid0.N, _)
theorem quant_idx : ∀ t : Fin cfg0.N, win0_10.index t = ![t.val, 0] := (by decide +kernel : ∀ t : Fin grid0.N, _)
theorem code_idx : ∀ t : Fin cfg0.N, win0_11.index t = ![t.val, 0] := (by decide +kernel : ∀ t : Fin grid0.N, _)

theorem lt_N (t : Fin cfg0.N) : t.val < 16 := Nat.lt_of_lt_of_eq t.isLt N_0

/-- The array row of a block's row. -/
def rowOf (t : Fin cfg0.N) (r : Fin 512) : Fin 8192 :=
  ⟨t.val * 512 + r.val, by have := lt_N t; have := r.isLt; omega⟩

theorem rows_block (t : Fin cfg0.N) (r : Fin 512) (k : Fin 2048) :
    iblk V c 0 t (ix2 r k) = V c main_arg0 (ix2 (rowOf t r) k) := by
  have e := rows_idx t
  blk_simp [iblk]
  congr 1
  blk_ext [e, rowOf]

/-- The weights' windows and the codebook's stay at their arrays' start. -/
theorem still : ∀ t : Fin cfg0.N, (∀ a, win0_1.index t a = 0)
    ∧ (∀ a, win0_2.index t a = 0)
    ∧ (∀ a, win0_3.index t a = 0)
    ∧ (∀ a, win0_4.index t a = 0)
    ∧ (∀ a, win0_5.index t a = 0)
    ∧ (∀ a, win0_6.index t a = 0)
    ∧ (∀ a, win0_7.index t a = 0)
    ∧ (∀ a, win0_8.index t a = 0)
    ∧ (∀ a, win0_9.index t a = 0) := (by decide +kernel : ∀ t : Fin grid0.N, _)

theorem whole1 (t : Fin cfg0.N) : iblk V c 1 t = V c main_arg1 :=
  funext fun y => congrArg (V c main_arg1) (funext fun a => Fin.ext (win0_1.rect_emb_val_of_index_zero t a ((still t).1 a) y))
theorem whole2 (t : Fin cfg0.N) : iblk V c 2 t = V c main_arg2 :=
  funext fun y => congrArg (V c main_arg2) (funext fun a => Fin.ext (win0_2.rect_emb_val_of_index_zero t a ((still t).2.1 a) y))
theorem whole3 (t : Fin cfg0.N) : iblk V c 3 t = V c main_arg3 :=
  funext fun y => congrArg (V c main_arg3) (funext fun a => Fin.ext (win0_3.rect_emb_val_of_index_zero t a ((still t).2.2.1 a) y))
theorem whole4 (t : Fin cfg0.N) : iblk V c 4 t = V c main_arg4 :=
  funext fun y => congrArg (V c main_arg4) (funext fun a => Fin.ext (win0_4.rect_emb_val_of_index_zero t a ((still t).2.2.2.1 a) y))
theorem whole5 (t : Fin cfg0.N) : iblk V c 5 t = V c main_arg5 :=
  funext fun y => congrArg (V c main_arg5) (funext fun a => Fin.ext (win0_5.rect_emb_val_of_index_zero t a ((still t).2.2.2.2.1 a) y))
theorem whole6 (t : Fin cfg0.N) : iblk V c 6 t = V c main_arg6 :=
  funext fun y => congrArg (V c main_arg6) (funext fun a => Fin.ext (win0_6.rect_emb_val_of_index_zero t a ((still t).2.2.2.2.2.1 a) y))
theorem whole7 (t : Fin cfg0.N) : iblk V c 7 t = V c main_arg7 :=
  funext fun y => congrArg (V c main_arg7) (funext fun a => Fin.ext (win0_7.rect_emb_val_of_index_zero t a ((still t).2.2.2.2.2.2.1 a) y))
theorem whole8 (t : Fin cfg0.N) : iblk V c 8 t = V c main_arg8 :=
  funext fun y => congrArg (V c main_arg8) (funext fun a => Fin.ext (win0_8.rect_emb_val_of_index_zero t a ((still t).2.2.2.2.2.2.2.1 a) y))
theorem whole9 (t : Fin cfg0.N) : iblk V c 9 t = V c main_arg9 :=
  funext fun y => congrArg (V c main_arg9) (funext fun a => Fin.ext (win0_9.rect_emb_val_of_index_zero t a ((still t).2.2.2.2.2.2.2.2 a) y))

/-! ## What the points compute -/

/-- The encoded rows of the whole input, -/
abbrev zRef : VQRef.Arr Ideal Cert.ReferenceIdeal.S8192x256 :=
  VQRef.encode (V c main_arg0) (V c main_arg1) (V c main_arg2) (V c main_arg3) (V c main_arg4) (V c main_arg5) (V c main_arg6) (V c main_arg7)
    (V c main_arg8)
/-- their codes, -/
abbrev eRef : VQRef.Arr Ideal Cert.ReferenceIdeal.S8192x1024 := VQRef.encodings (zRef V c) (V c main_arg9)
/-- and the entries the codes pick. -/
abbrev pRef : VQRef.Arr Ideal Cert.ReferenceIdeal.S8192x256 := VQRef.picked (eRef V c) (V c main_arg9)

theorem codes_eq (t : Fin cfg0.N) : codes V c t = V c main_arg9 := whole9 V c t

theorem z_row (t : Fin cfg0.N) (r : Fin 512) (l : Fin 256) : zAt V c t (ix2 r l) = zRef V c (ix2 (rowOf t r) l) := by
  unfold zAt
  rw [whole1, whole2, whole3, whole4, whole5, whole6, whole7, whole8]
  exact enc_row _ _ _ _ _ _ _ _ _ _ r (rowOf t r) (fun k => rows_block V c t r k) l

/-- The quantised rows. -/
theorem arr_quant : (dat V c).arrAt 10 cfg0.N = VQRef.quantized (pRef V c) (zRef V c) := by
  refine (dat V c).arrAt_eq_of_covers 10 _ (by decide +kernel) fun t hf y => ?_
  have e := quant_idx t
  blk_simp
  show k0_pay10 (zAt V c t) (codes V c t) y = _
  rw [codes_eq]
  idx_vars y
  refine (quant_row (zAt V c t) (zRef V c) (V c main_arg9) y0 (rowOf t y0) (z_row V c t y0) y1).trans ?_
  congr 1
  blk_ext [e, rowOf]

/-- The codes. -/
theorem arr_code : (dat V c).arrAt 11 cfg0.N = eRef V c := by
  refine (dat V c).arrAt_eq_of_covers 11 _ (by decide +kernel) fun t hf y => ?_
  have e := code_idx t
  blk_simp
  show k0_pay8 (zAt V c t) (codes V c t) y = _
  rw [codes_eq]
  idx_vars y
  refine (code_row (zAt V c t) (zRef V c) (V c main_arg9) y0 (rowOf t y0) (z_row V c t y0) y1).trans ?_
  congr 1
  blk_ext [e, rowOf]

/-! ## The running sums -/

/-- A sum over the points' blocks is a sum over the array's rows. -/
theorem sum_rows {M : Type} [AddCommMonoid M] (f : Fin 8192 → M) :
    ∑ n ∈ Finset.range 16, ∑ r : Fin 512, f (rowOf (ptOf n) r) = ∑ R : Fin 8192, f R := by
  rw [Finset.sum_range, ← Fintype.sum_prod_type']
  refine Fintype.sum_equiv (finProdFinEquiv : Fin 16 × Fin 512 ≃ Fin (16 * 512)) _ f fun x => ?_
  refine congrArg f (Fin.ext ?_)
  have h : (ptOf x.1.val).val = x.1.val := by
    unfold ptOf
    rw [dif_pos (Nat.lt_of_lt_of_eq x.1.isLt N_0.symm)]
  show (ptOf x.1.val).val * 512 + x.2.val = x.2.val + 512 * x.1.val
  rw [h]
  omega

/-- A row's squared distance to its entry. -/
def sqRow (R : Fin 8192) : EReal :=
  ∑ l : Fin 256, (pRef V c (ix2 R l) - zRef V c (ix2 R l)) * (pRef V c (ix2 R l) - zRef V c (ix2 R l))

theorem loss_sum (n : ℕ) :
    lossAt V c n (ix2 0 0) = ∑ k ∈ Finset.range n, ∑ r : Fin 512, sqRow V c (rowOf (ptOf k) r) := by
  induction n with
  | zero =>
    rw [Finset.sum_range_zero, lossAt]
    pointwise [k0_pay6]
  | succ n ih =>
    rw [Finset.sum_range_succ, ← ih, lossAt, codes_eq]
    have hp := picked_row (zAt V c (ptOf n)) (zRef V c) (V c main_arg9)
    have hz := z_row V c (ptOf n)
    unfold sqRow
    pointwise [k0_pay1, k0_pay11, fun r l => hp r (rowOf (ptOf n) r) (hz r) l, hz]

theorem counts_sum (j : Fin 1024) (n : ℕ) :
    countsAt V c n (ix2 0 j) = ∑ k ∈ Finset.range n, ∑ r : Fin 512, eRef V c (ix2 (rowOf (ptOf k) r) j) := by
  induction n with
  | zero =>
    rw [Finset.sum_range_zero, countsAt]
    pointwise [k0_pay5]
  | succ n ih =>
    rw [Finset.sum_range_succ, ← ih, countsAt, codes_eq]
    have hc := code_row (zAt V c (ptOf n)) (zRef V c) (V c main_arg9)
    have hz := z_row V c (ptOf n)
    pointwise [k0_pay2, fun r l => hc r (rowOf (ptOf n) r) (hz r) l]

/-- The last point. -/
abbrev lastPt : Fin cfg0.N := ⟨15, lt_of_lt_of_eq (by decide) N_0.symm⟩

theorem arr_loss : (dat V c).arrAt 12 cfg0.N = k0_pay3 (lossAt V c 16) := by
  refine (dat V c).arrAt_eq_of_after_last 12 lastPt (by decide +kernel) _ fun j => ?_
  rfl

theorem arr_perp : (dat V c).arrAt 13 cfg0.N = k0_pay4 (countsAt V c 16) := by
  refine (dat V c).arrAt_eq_of_after_last 13 lastPt (by decide +kernel) _ fun j => ?_
  rfl

/-- The loss. -/
theorem loss_eq : k0_pay3 (lossAt V c 16) (ix2 0 0) = VQRef.loss (pRef V c) (zRef V c) ix0 := by
  have h : lossAt V c 16 (ix2 0 0) = ∑ R : Fin 8192, sqRow V c R := (loss_sum V c 16).trans (sum_rows _)
  have hr : VQRef.loss (pRef V c) (zRef V c) ix0 = Ideal.div (∑ R : Fin 8192, sqRow V c R) (Ideal.ofBits .f32 0x4A000000#32)
      + Ideal.ofBits .f32 0x3E800000#32 * Ideal.div (∑ R : Fin 8192, sqRow V c R) (Ideal.ofBits .f32 0x4A000000#32) := by
    unfold sqRow
    generalize pRef V c = q
    generalize zRef V c = z
    pointwise [VQRef.loss, VQRef.meanSq]
  rw [hr, div_elems]
  pointwise [k0_pay3, h]

/-- The perplexity of counts. -/
theorem perp_form (q : Vec Ideal S1x1024 .f32) (e : VQRef.Arr Ideal Cert.ReferenceIdeal.S8192x1024)
    (h : ∀ j : Fin 1024, q (ix2 0 j) = ∑ R : Fin 8192, e (ix2 R j)) : k0_pay4 q (ix2 0 0) = VQRef.perplexity e ix0 := by
  pointwise [k0_pay4, VQRef.perplexity, VQRef.probs, h, div_rows, zero_sub]

theorem counts_all (j : Fin 1024) : countsAt V c 16 (ix2 0 j) = ∑ R : Fin 8192, eRef V c (ix2 R j) := by
  rw [counts_sum, ← sum_rows]

/-- The perplexity. -/
theorem perp_eq : k0_pay4 (countsAt V c 16) (ix2 0 0) = VQRef.perplexity (eRef V c) ix0 := perp_form _ _ (counts_all V c)

end R0

/-! ## The decoder's region -/

namespace R1

variable (V : Entry Ideal) (c : Dev nD)

theorem rows_idx : ∀ t : Fin cfg1.N, win1_0.index t = ![t.val, 0] := (by decide +kernel : ∀ t : Fin grid1.N, _)
theorem dec_idx : ∀ t : Fin cfg1.N, win1_9.index t = ![t.val, 0] := (by decide +kernel : ∀ t : Fin grid1.N, _)

theorem lt_N (t : Fin cfg1.N) : t.val < 8 := Nat.lt_of_lt_of_eq t.isLt N_1

/-- The array row of a block's row. -/
def rowOf (t : Fin cfg1.N) (r : Fin 1024) : Fin 8192 :=
  ⟨t.val * 1024 + r.val, by have := lt_N t; have := r.isLt; omega⟩

theorem rows_block (t : Fin cfg1.N) (r : Fin 1024) (k : Fin 256) :
    iblk V c 0 t (ix2 r k) = V c main_v0_0 (ix2 (rowOf t r) k) := by
  have e := rows_idx t
  blk_simp [iblk]
  congr 1
  blk_ext [e, rowOf]

/-- The weights' windows stay at their arrays' start. -/
theorem still : ∀ t : Fin cfg1.N, (∀ a, win1_1.index t a = 0)
    ∧ (∀ a, win1_2.index t a = 0)
    ∧ (∀ a, win1_3.index t a = 0)
    ∧ (∀ a, win1_4.index t a = 0)
    ∧ (∀ a, win1_5.index t a = 0)
    ∧ (∀ a, win1_6.index t a = 0)
    ∧ (∀ a, win1_7.index t a = 0)
    ∧ (∀ a, win1_8.index t a = 0) := (by decide +kernel : ∀ t : Fin grid1.N, _)

theorem whole1 (t : Fin cfg1.N) : iblk V c 1 t = V c main_arg10 :=
  funext fun y => congrArg (V c main_arg10) (funext fun a => Fin.ext (win1_1.rect_emb_val_of_index_zero t a ((still t).1 a) y))
theorem whole2 (t : Fin cfg1.N) : iblk V c 2 t = V c main_arg11 :=
  funext fun y => congrArg (V c main_arg11) (funext fun a => Fin.ext (win1_2.rect_emb_val_of_index_zero t a ((still t).2.1 a) y))
theorem whole3 (t : Fin cfg1.N) : iblk V c 3 t = V c main_arg12 :=
  funext fun y => congrArg (V c main_arg12) (funext fun a => Fin.ext (win1_3.rect_emb_val_of_index_zero t a ((still t).2.2.1 a) y))
theorem whole4 (t : Fin cfg1.N) : iblk V c 4 t = V c main_arg13 :=
  funext fun y => congrArg (V c main_arg13) (funext fun a => Fin.ext (win1_4.rect_emb_val_of_index_zero t a ((still t).2.2.2.1 a) y))
theorem whole5 (t : Fin cfg1.N) : iblk V c 5 t = V c main_arg14 :=
  funext fun y => congrArg (V c main_arg14) (funext fun a => Fin.ext (win1_5.rect_emb_val_of_index_zero t a ((still t).2.2.2.2.1 a) y))
theorem whole6 (t : Fin cfg1.N) : iblk V c 6 t = V c main_arg15 :=
  funext fun y => congrArg (V c main_arg15) (funext fun a => Fin.ext (win1_6.rect_emb_val_of_index_zero t a ((still t).2.2.2.2.2.1 a) y))
theorem whole7 (t : Fin cfg1.N) : iblk V c 7 t = V c main_arg16 :=
  funext fun y => congrArg (V c main_arg16) (funext fun a => Fin.ext (win1_7.rect_emb_val_of_index_zero t a ((still t).2.2.2.2.2.2.1 a) y))
theorem whole8 (t : Fin cfg1.N) : iblk V c 8 t = V c main_arg17 :=
  funext fun y => congrArg (V c main_arg17) (funext fun a => Fin.ext (win1_8.rect_emb_val_of_index_zero t a ((still t).2.2.2.2.2.2.2 a) y))

/-- The decoded rows. -/
theorem arr_dec : (dat V c).arrAt 9 cfg1.N = VQRef.decode (V c main_v0_0) (V c main_arg10) (V c main_arg11) (V c main_arg12)
    (V c main_arg13) (V c main_arg14) (V c main_arg15) (V c main_arg16) (V c main_arg17) := by
  refine (dat V c).arrAt_eq_of_covers 9 _ (by decide +kernel) fun t hf y => ?_
  have e := dec_idx t
  blk_simp
  show decAt V c t y = _
  unfold decAt
  rw [whole1, whole2, whole3, whole4, whole5, whole6, whole7, whole8]
  idx_vars y
  refine (dec_row (iblk V c 0 t) (V c main_v0_0) _ _ _ _ _ _ _ _ y0 (rowOf t y0) (fun k => rows_block V c t y0 k) y1).trans ?_
  congr 1
  blk_ext [e, rowOf]

end R1

end Cert.VQ

end
-- ==== Proof.Algebraic.lean ====
/- The algebraic claim: over the extended reals the kernel's results and the reference's are the same functions of the
   arguments. -/
module

public import proofs.«01_k».proof.Proof.Arrays
public import proofs.«01_k».proof.Proof.RefValue
public import proofs.«01_k».proof.Proof.Frame

@[expose] public section

set_option maxRecDepth 16384

noncomputable section

namespace Cert.VQ

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-! ## The kernel's results, of the launch contents -/

/-- The encoder's rows, -/
abbrev zK : VQRef.Arr Ideal Cert.ReferenceIdeal.S8192x256 := R0.zRef (Ve0 m) c
/-- the codes, -/
abbrev eK : VQRef.Arr Ideal Cert.ReferenceIdeal.S8192x1024 := R0.eRef (Ve0 m) c
/-- the entries they pick, -/
abbrev pK : VQRef.Arr Ideal Cert.ReferenceIdeal.S8192x256 := R0.pRef (Ve0 m) c
/-- the quantised rows, -/
abbrev qK : VQRef.Arr Ideal Cert.ReferenceIdeal.S8192x256 := VQRef.quantized (pK m c) (zK m c)
/-- and the decoder's rows. -/
abbrev dK : VQRef.Arr Ideal Cert.ReferenceIdeal.S8192x2048 :=
  VQRef.decode (qK m c) (Ve0 m c main_arg10) (Ve0 m c main_arg11) (Ve0 m c main_arg12) (Ve0 m c main_arg13) (Ve0 m c main_arg14)
    (Ve0 m c main_arg15) (Ve0 m c main_arg16) (Ve0 m c main_arg17)

theorem quant_mid : V1 m (outsB m) c main_v0_0 = qK m c :=
  ((V1_v0_0 m (outsB m) c).trans ((isOuts_outsB m).q c)).trans (R0.arr_quant (Ve0 m) c)

/-- What the first region leaves, the second and the closing reshapes keep. -/
theorem out2 : V3 m (outsB m) c main_v0_0 = qK m c :=
  ((V3_of m (outsB m) c main_v0_0 (by decide)).trans (V2_of m (outsB m) c main_v0_0 (by decide))).trans (quant_mid m c)

theorem out4 : V3 m (outsB m) c main_v0_1 = eK m c :=
  (((V3_of m (outsB m) c main_v0_1 (by decide)).trans (V2_of m (outsB m) c main_v0_1 (by decide))).trans
    ((V1_v0_1 m (outsB m) c).trans ((isOuts_outsB m).enc c))).trans (R0.arr_code (Ve0 m) c)

theorem out0 : V3 m (outsB m) c main_v1 = dK m c := by
  refine (((V3_of m (outsB m) c main_v1 (by decide)).trans (V2_v1 m (outsB m) c)).trans ((isOuts_outsB m).dec c)).trans ?_
  rw [R1.arr_dec]
  have k (r : Ref sig .tc) (h : r ∉ ([main_v0_0, main_v0_1, main_v0_2, main_v0_3] : List (Ref sig .tc))) := V1_of m (outsB m) c r h
  simp only [Ve1]
  rw [quant_mid, k main_arg10 (by decide), k main_arg11 (by decide), k main_arg12 (by decide), k main_arg13 (by decide),
    k main_arg14 (by decide), k main_arg15 (by decide), k main_arg16 (by decide), k main_arg17 (by decide)]

theorem loss_mid : V2 m (outsB m) c main_v0_2 = k0_pay3 (R0.lossAt (Ve0 m) c 16) :=
  ((V2_of m (outsB m) c main_v0_2 (by decide)).trans ((V1_v0_2 m (outsB m) c).trans ((isOuts_outsB m).loss c))).trans
    (R0.arr_loss (Ve0 m) c)

theorem perp_mid : V2 m (outsB m) c main_v0_3 = k0_pay4 (R0.countsAt (Ve0 m) c 16) :=
  ((V2_of m (outsB m) c main_v0_3 (by decide)).trans ((V1_v0_3 m (outsB m) c).trans ((isOuts_outsB m).perp c))).trans
    (R0.arr_perp (Ve0 m) c)

/-- A 1x1 array has one cell; -/
theorem cell_cast (x : S1x1.Idx → EReal) (h : S1x1.ShapeCasts S_) (j : S_.Idx) : shapeCast S_ x h j = x (ix2 0 0) := by
  unfold shapeCast
  refine congrArg x (funext fun a => ?_)
  fin_cases a <;> exact Subsingleton.elim (α := Fin 1) _ _

/-- the closing reshapes read it. -/
theorem reshape_v2 (U : Valuation τ sig (Elt Ideal)) (j : S_.Idx) : StableHlo.after hostOps2 U main_v2 j = U main_v0_2 (ix2 0 0) := by
  simp only [hostOps2]
  after_results_simp
  exact cell_cast _ _ j

theorem reshape_v3 (U : Valuation τ sig (Elt Ideal)) (j : S_.Idx) : StableHlo.after hostOps2 U main_v3 j = U main_v0_3 (ix2 0 0) := by
  simp only [hostOps2]
  after_results_simp
  exact cell_cast _ _ j

theorem out1 : V3 m (outsB m) c main_v2 = VQRef.loss (pK m c) (zK m c) := by
  funext j
  refine (reshape_v2 _ j).trans ?_
  rw [loss_mid, R0.loss_eq]
  exact congrArg _ (funext fun a => a.elim0)

theorem out3 : V3 m (outsB m) c main_v3 = VQRef.perplexity (eK m c) := by
  funext j
  refine (reshape_v3 _ j).trans ?_
  rw [perp_mid, R0.perp_eq]
  exact congrArg _ (funext fun a => a.elim0)

/-! ## The reference's results are the same functions of the same arguments -/

section Same
variable (m' : (ℓ : Loc Cert.ReferenceIdeal.nD Cert.ReferenceIdeal.τ Cert.ReferenceIdeal.sig) → Buf (Elt Ideal) ℓ)

/-- The two launches agree on the arguments on a core. -/
abbrev Agree : Prop :=
  m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)

variable {m m' c} (h : Agree m c m')
include h

theorem z_same : VQRef.zR m' c = zK m c := by
  obtain ⟨h0, h1, h2, h3, h4, h5, h6, h7, h8, -⟩ := h
  unfold VQRef.zR
  rw [h0, h1, h2, h3, h4, h5, h6, h7, h8]

theorem e_same : VQRef.eR m' c = eK m c := by
  unfold VQRef.eR
  rw [z_same h, h.2.2.2.2.2.2.2.2.2.1]

theorem p_same : VQRef.pR m' c = pK m c := by
  unfold VQRef.pR
  rw [e_same h, h.2.2.2.2.2.2.2.2.2.1]

theorem q_same : VQRef.qR m' c = qK m c := by
  unfold VQRef.qR
  rw [p_same h, z_same h]

theorem d_same : VQRef.dR m' c = dK m c := by
  have hq := q_same h
  obtain ⟨-, -, -, -, -, -, -, -, -, -, h10, h11, h12, h13, h14, h15, h16, h17⟩ := h
  unfold VQRef.dR
  rw [hq, h10, h11, h12, h13, h14, h15, h16, h17]

end Same

/-- Both programs run to their ends with equal results and the arguments as they were. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => dK m c, fun c => VQRef.loss (pK m c) (zK m c), fun c => qK m c, fun c => VQRef.perplexity (eK m c),
    fun c => eK m c, ?_, ?_⟩
  · refine (θ_run _ _ _).mono (fun r h c => ?_) (run m g)
    have k (r' : Ref sig .tc) (hr : ¬ (Proc.devRef (τ := τ) .tc r').isScoped = true) := h.1 c (Proc.devRef .tc r') (mem_uc r' hr)
    exact ⟨(k main_v1 (by decide)).trans (out0 m c), (k main_v2 (by decide)).trans (out1 m c),
      (k main_v0_0 (by decide)).trans (out2 m c), (k main_v3 (by decide)).trans (out3 m c),
      (k main_v0_1 (by decide)).trans (out4 m c),
      (k main_arg0 (by decide)).trans (V3_main_arg0 m _ c), (k main_arg1 (by decide)).trans (V3_main_arg1 m _ c),
      (k main_arg2 (by decide)).trans (V3_main_arg2 m _ c), (k main_arg3 (by decide)).trans (V3_main_arg3 m _ c),
      (k main_arg4 (by decide)).trans (V3_main_arg4 m _ c), (k main_arg5 (by decide)).trans (V3_main_arg5 m _ c),
      (k main_arg6 (by decide)).trans (V3_main_arg6 m _ c), (k main_arg7 (by decide)).trans (V3_main_arg7 m _ c),
      (k main_arg8 (by decide)).trans (V3_main_arg8 m _ c), (k main_arg9 (by decide)).trans (V3_main_arg9 m _ c),
      (k main_arg10 (by decide)).trans (V3_main_arg10 m _ c), (k main_arg11 (by decide)).trans (V3_main_arg11 m _ c),
      (k main_arg12 (by decide)).trans (V3_main_arg12 m _ c), (k main_arg13 (by decide)).trans (V3_main_arg13 m _ c),
      (k main_arg14 (by decide)).trans (V3_main_arg14 m _ c), (k main_arg15 (by decide)).trans (V3_main_arg15 m _ c),
      (k main_arg16 (by decide)).trans (V3_main_arg16 m _ c), (k main_arg17 (by decide)).trans (V3_main_arg17 m _ c)⟩
  · refine (θ_run _ _ _).mono (fun r h c => ?_) (VQRef.run m' g')
    have k {r' : Ref Cert.ReferenceIdeal.sig .tc} (hr) := (h.1 c r').trans (VQRef.arg_kept m' c (r := r') hr)
    have a : Agree m c m' := hm c
    refine ⟨((h.1 c _).trans (VQRef.res0 m' c)).trans (d_same a), ((h.1 c _).trans (VQRef.res1 m' c)).trans ?_,
      ((h.1 c _).trans (VQRef.res2 m' c)).trans (q_same a), ((h.1 c _).trans (VQRef.res3 m' c)).trans ?_,
      ((h.1 c _).trans (VQRef.res4 m' c)).trans (e_same a),
      k (by decide), k (by decide), k (by decide), k (by decide), k (by decide), k (by decide),
      k (by decide), k (by decide), k (by decide), k (by decide), k (by decide), k (by decide),
      k (by decide), k (by decide), k (by decide), k (by decide), k (by decide), k (by decide)⟩
    · rw [p_same a, z_same a]
    · rw [e_same a]

end Cert.VQ

end
-- ==== Proof.lean ====
module

public import proofs.«01_k».proof.Defs
public import proofs.«01_k».proof.Proof.Frame
public import proofs.«01_k».proof.Proof.RefValue
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.VQ.quiescent_rounded, Cert.VQ.quiescent_ideal, Cert.VQRef.quiescent_reference, trivial, Cert.VQ.algebraic⟩

end Cert.Proof

end
